-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 1024]⟩ ⟨3, ![4, 512, 1024]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x256x1024 : Shape := ⟨3, ![4, 256, 1024]⟩
abbrev S8x128x1024 : Shape := ⟨3, ![8, 128, 1024]⟩
abbrev S8 : Shape := ⟨1, ![8]⟩
abbrev S_ : Shape := ⟨0, ![]⟩
abbrev S128x1024 : Shape := ⟨2, ![128, 1024]⟩
abbrev S1x128x1x64 : Shape := ⟨4, ![1, 128, 1, 64]⟩
abbrev S128x64 : Shape := ⟨2, ![128, 64]⟩
abbrev S64x1024 : Shape := ⟨2, ![64, 1024]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4x512x8x64, .f32⟩
  | .hbm, ⟨1, _⟩ => ⟨S512x1024, .f32⟩
  | .hbm, ⟨2, _⟩ => ⟨S4x256x1024, .f32⟩
  | .local _ .vmem, ⟨0, _⟩ => ⟨S4x512x8x64, .f32⟩
  | .local _ .vmem, ⟨1, _⟩ => ⟨S512x1024, .f32⟩
  | .local _ .vmem, ⟨2, _⟩ => ⟨S4x256x1024, .f32⟩
  | .local _ .vmem, ⟨3, _⟩ => ⟨S8x128x1024, .bf16⟩
  | .local _ .vmem, ⟨4, _⟩ => ⟨S8x128x1024, .bf16⟩
  | _, _ => ⟨S4x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) (c0_i32_7 : BitVec 32) : Fin 4 → Nat :=
  let c0 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v14 : BitVec 32 := Scalar.addi v12 c0_i32_7
  let v15 : Index := Scalar.indexCast v14
  let c0_8 : Index := 0#32
  let c0_9 : Index := 0#32
  ![0, v15.toNat, 0, 0]
def k0_off2 (d0 : Dev nD) (c0_i32_13 : BitVec 32) : Fin 4 → Nat :=
  let c0_14 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v22 : BitVec 32 := Scalar.addi v12 c0_i32_13
  let v23 : Index := Scalar.indexCast v22
  let c1 : Index := 1#32
  let c0_15 : Index := 0#32
  ![0, v23.toNat, 1, 0]
def k0_off3 (d0 : Dev nD) (c0_i32_18 : BitVec 32) : Fin 4 → Nat :=
  let c0_19 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v30 : BitVec 32 := Scalar.addi v12 c0_i32_18
  let v31 : Index := Scalar.indexCast v30
  let c2 : Index := 2#32
  let c0_20 : Index := 0#32
  ![0, v31.toNat, 2, 0]
def k0_off4 (d0 : Dev nD) (c0_i32_23 : BitVec 32) : Fin 4 → Nat :=
  let c0_24 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v38 : BitVec 32 := Scalar.addi v12 c0_i32_23
  let v39 : Index := Scalar.indexCast v38
  let c3 : Index := 3#32
  let c0_25 : Index := 0#32
  ![0, v39.toNat, 3, 0]
def k0_off5 (d0 : Dev nD) (c0_i32_28 : BitVec 32) : Fin 4 → Nat :=
  let c0_29 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v46 : BitVec 32 := Scalar.addi v12 c0_i32_28
  let v47 : Index := Scalar.indexCast v46
  let c4 : Index := 4#32
  let c0_30 : Index := 0#32
  ![0, v47.toNat, 4, 0]
def k0_off6 (d0 : Dev nD) (c0_i32_33 : BitVec 32) : Fin 4 → Nat :=
  let c0_34 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v54 : BitVec 32 := Scalar.addi v12 c0_i32_33
  let v55 : Index := Scalar.indexCast v54
  let c5 : Index := 5#32
  let c0_35 : Index := 0#32
  ![0, v55.toNat, 5, 0]
def k0_off7 (d0 : Dev nD) (c0_i32_38 : BitVec 32) : Fin 4 → Nat :=
  let c0_39 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v62 : BitVec 32 := Scalar.addi v12 c0_i32_38
  let v63 : Index := Scalar.indexCast v62
  let c6 : Index := 6#32
  let c0_40 : Index := 0#32
  ![0, v63.toNat, 6, 0]
def k0_off8 (d0 : Dev nD) (c0_i32_43 : BitVec 32) : Fin 4 → Nat :=
  let c0_44 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v70 : BitVec 32 := Scalar.addi v12 c0_i32_43
  let v71 : Index := Scalar.indexCast v70
  let c7 : Index := 7#32
  let c0_45 : Index := 0#32
  ![0, v71.toNat, 7, 0]
def k0_dev2 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v82 : BitVec 32 := Scalar.muli v6 c2_i32_55
  let v83 : BitVec 32 := Scalar.addi c0_i32_56 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v84 : BitVec 32 := Scalar.muli v5 c1_i32_57
  let v85 : BitVec 32 := Scalar.addi v83 v84
  v85.toNat
def k0_dev3 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v164 : BitVec 32 := Scalar.muli v6 c2_i32_126
  let v165 : BitVec 32 := Scalar.addi c0_i32_127 v164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v166 : BitVec 32 := Scalar.muli v5 c1_i32_128
  let v167 : BitVec 32 := Scalar.addi v165 v166
  v167.toNat
def k0_off9 (d0 : Dev nD) (c0_i32_135 : BitVec 32) : Fin 4 → Nat :=
  let c1_136 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v178 : BitVec 32 := Scalar.addi v176 c0_i32_135
  let v179 : Index := Scalar.indexCast v178
  let c0_137 : Index := 0#32
  let c0_138 : Index := 0#32
  ![1, v179.toNat, 0, 0]
def k0_off10 (d0 : Dev nD) (c0_i32_142 : BitVec 32) : Fin 4 → Nat :=
  let c1_143 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v186 : BitVec 32 := Scalar.addi v176 c0_i32_142
  let v187 : Index := Scalar.indexCast v186
  let c1_144 : Index := 1#32
  let c0_145 : Index := 0#32
  ![1, v187.toNat, 1, 0]
def k0_off11 (d0 : Dev nD) (c0_i32_149 : BitVec 32) : Fin 4 → Nat :=
  let c1_150 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v194 : BitVec 32 := Scalar.addi v176 c0_i32_149
  let v195 : Index := Scalar.indexCast v194
  let c2_151 : Index := 2#32
  let c0_152 : Index := 0#32
  ![1, v195.toNat, 2, 0]
def k0_off12 (d0 : Dev nD) (c0_i32_156 : BitVec 32) : Fin 4 → Nat :=
  let c1_157 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v202 : BitVec 32 := Scalar.addi v176 c0_i32_156
  let v203 : Index := Scalar.indexCast v202
  let c3_158 : Index := 3#32
  let c0_159 : Index := 0#32
  ![1, v203.toNat, 3, 0]
def k0_off13 (d0 : Dev nD) (c0_i32_163 : BitVec 32) : Fin 4 → Nat :=
  let c1_164 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v210 : BitVec 32 := Scalar.addi v176 c0_i32_163
  let v211 : Index := Scalar.indexCast v210
  let c4_165 : Index := 4#32
  let c0_166 : Index := 0#32
  ![1, v211.toNat, 4, 0]
def k0_off14 (d0 : Dev nD) (c0_i32_170 : BitVec 32) : Fin 4 → Nat :=
  let c1_171 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v218 : BitVec 32 := Scalar.addi v176 c0_i32_170
  let v219 : Index := Scalar.indexCast v218
  let c5_172 : Index := 5#32
  let c0_173 : Index := 0#32
  ![1, v219.toNat, 5, 0]
def k0_off15 (d0 : Dev nD) (c0_i32_177 : BitVec 32) : Fin 4 → Nat :=
  let c1_178 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v226 : BitVec 32 := Scalar.addi v176 c0_i32_177
  let v227 : Index := Scalar.indexCast v226
  let c6_179 : Index := 6#32
  let c0_180 : Index := 0#32
  ![1, v227.toNat, 6, 0]
def k0_off16 (d0 : Dev nD) (c0_i32_184 : BitVec 32) : Fin 4 → Nat :=
  let c1_185 : Index := 1#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_133 : BitVec 32 := 256#32
  let v176 : BitVec 32 := Scalar.muli v6 c256_i32_133
  let v234 : BitVec 32 := Scalar.addi v176 c0_i32_184
  let v235 : Index := Scalar.indexCast v234
  let c7_186 : Index := 7#32
  let c0_187 : Index := 0#32
  ![1, v235.toNat, 7, 0]
def k0_dev4 (d0 : Dev nD) : Nat :=
  let c0_i32_199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_198 : BitVec 32 := 2#32
  let v246 : BitVec 32 := Scalar.muli v6 c2_i32_198
  let v247 : BitVec 32 := Scalar.addi c0_i32_199 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v248 : BitVec 32 := Scalar.muli v5 c1_i32_200
  let v249 : BitVec 32 := Scalar.addi v247 v248
  v249.toNat
def k0_dev5 (d0 : Dev nD) : Nat :=
  let c0_i32_270 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_269 : BitVec 32 := 2#32
  let v328 : BitVec 32 := Scalar.muli v6 c2_i32_269
  let v329 : BitVec 32 := Scalar.addi c0_i32_270 v328
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v330 : BitVec 32 := Scalar.muli v5 c1_i32_271
  let v331 : BitVec 32 := Scalar.addi v329 v330
  v331.toNat
def k0_off17 (d0 : Dev nD) (c0_i32_278 : BitVec 32) : Fin 4 → Nat :=
  let c2_279 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v342 : BitVec 32 := Scalar.addi v340 c0_i32_278
  let v343 : Index := Scalar.indexCast v342
  let c0_280 : Index := 0#32
  let c0_281 : Index := 0#32
  ![2, v343.toNat, 0, 0]
def k0_off18 (d0 : Dev nD) (c0_i32_285 : BitVec 32) : Fin 4 → Nat :=
  let c2_286 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v350 : BitVec 32 := Scalar.addi v340 c0_i32_285
  let v351 : Index := Scalar.indexCast v350
  let c1_287 : Index := 1#32
  let c0_288 : Index := 0#32
  ![2, v351.toNat, 1, 0]
def k0_off19 (d0 : Dev nD) (c0_i32_292 : BitVec 32) : Fin 4 → Nat :=
  let c2_293 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v358 : BitVec 32 := Scalar.addi v340 c0_i32_292
  let v359 : Index := Scalar.indexCast v358
  let c2_294 : Index := 2#32
  let c0_295 : Index := 0#32
  ![2, v359.toNat, 2, 0]
def k0_off20 (d0 : Dev nD) (c0_i32_299 : BitVec 32) : Fin 4 → Nat :=
  let c2_300 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v366 : BitVec 32 := Scalar.addi v340 c0_i32_299
  let v367 : Index := Scalar.indexCast v366
  let c3_301 : Index := 3#32
  let c0_302 : Index := 0#32
  ![2, v367.toNat, 3, 0]
def k0_off21 (d0 : Dev nD) (c0_i32_306 : BitVec 32) : Fin 4 → Nat :=
  let c2_307 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v374 : BitVec 32 := Scalar.addi v340 c0_i32_306
  let v375 : Index := Scalar.indexCast v374
  let c4_308 : Index := 4#32
  let c0_309 : Index := 0#32
  ![2, v375.toNat, 4, 0]
def k0_off22 (d0 : Dev nD) (c0_i32_313 : BitVec 32) : Fin 4 → Nat :=
  let c2_314 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v382 : BitVec 32 := Scalar.addi v340 c0_i32_313
  let v383 : Index := Scalar.indexCast v382
  let c5_315 : Index := 5#32
  let c0_316 : Index := 0#32
  ![2, v383.toNat, 5, 0]
def k0_off23 (d0 : Dev nD) (c0_i32_320 : BitVec 32) : Fin 4 → Nat :=
  let c2_321 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v390 : BitVec 32 := Scalar.addi v340 c0_i32_320
  let v391 : Index := Scalar.indexCast v390
  let c6_322 : Index := 6#32
  let c0_323 : Index := 0#32
  ![2, v391.toNat, 6, 0]
def k0_off24 (d0 : Dev nD) (c0_i32_327 : BitVec 32) : Fin 4 → Nat :=
  let c2_328 : Index := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_276 : BitVec 32 := 256#32
  let v340 : BitVec 32 := Scalar.muli v6 c256_i32_276
  let v398 : BitVec 32 := Scalar.addi v340 c0_i32_327
  let v399 : Index := Scalar.indexCast v398
  let c7_329 : Index := 7#32
  let c0_330 : Index := 0#32
  ![2, v399.toNat, 7, 0]
def k0_dev6 (d0 : Dev nD) : Nat :=
  let c0_i32_341 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_340 : BitVec 32 := 2#32
  let v410 : BitVec 32 := Scalar.muli v6 c2_i32_340
  let v411 : BitVec 32 := Scalar.addi c0_i32_341 v410
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v412 : BitVec 32 := Scalar.muli v5 c1_i32_342
  let v413 : BitVec 32 := Scalar.addi v411 v412
  v413.toNat
def k0_dev7 (d0 : Dev nD) : Nat :=
  let c0_i32_412 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_411 : BitVec 32 := 2#32
  let v492 : BitVec 32 := Scalar.muli v6 c2_i32_411
  let v493 : BitVec 32 := Scalar.addi c0_i32_412 v492
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_413 : BitVec 32 := 1#32
  let v494 : BitVec 32 := Scalar.muli v5 c1_i32_413
  let v495 : BitVec 32 := Scalar.addi v493 v494
  v495.toNat
def k0_off25 (d0 : Dev nD) (c0_i32_420 : BitVec 32) : Fin 4 → Nat :=
  let c3_421 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v506 : BitVec 32 := Scalar.addi v504 c0_i32_420
  let v507 : Index := Scalar.indexCast v506
  let c0_422 : Index := 0#32
  let c0_423 : Index := 0#32
  ![3, v507.toNat, 0, 0]
def k0_off26 (d0 : Dev nD) (c0_i32_427 : BitVec 32) : Fin 4 → Nat :=
  let c3_428 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v514 : BitVec 32 := Scalar.addi v504 c0_i32_427
  let v515 : Index := Scalar.indexCast v514
  let c1_429 : Index := 1#32
  let c0_430 : Index := 0#32
  ![3, v515.toNat, 1, 0]
def k0_off27 (d0 : Dev nD) (c0_i32_434 : BitVec 32) : Fin 4 → Nat :=
  let c3_435 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v522 : BitVec 32 := Scalar.addi v504 c0_i32_434
  let v523 : Index := Scalar.indexCast v522
  let c2_436 : Index := 2#32
  let c0_437 : Index := 0#32
  ![3, v523.toNat, 2, 0]
def k0_off28 (d0 : Dev nD) (c0_i32_441 : BitVec 32) : Fin 4 → Nat :=
  let c3_442 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v530 : BitVec 32 := Scalar.addi v504 c0_i32_441
  let v531 : Index := Scalar.indexCast v530
  let c3_443 : Index := 3#32
  let c0_444 : Index := 0#32
  ![3, v531.toNat, 3, 0]
def k0_off29 (d0 : Dev nD) (c0_i32_448 : BitVec 32) : Fin 4 → Nat :=
  let c3_449 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v538 : BitVec 32 := Scalar.addi v504 c0_i32_448
  let v539 : Index := Scalar.indexCast v538
  let c4_450 : Index := 4#32
  let c0_451 : Index := 0#32
  ![3, v539.toNat, 4, 0]
def k0_off30 (d0 : Dev nD) (c0_i32_455 : BitVec 32) : Fin 4 → Nat :=
  let c3_456 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v546 : BitVec 32 := Scalar.addi v504 c0_i32_455
  let v547 : Index := Scalar.indexCast v546
  let c5_457 : Index := 5#32
  let c0_458 : Index := 0#32
  ![3, v547.toNat, 5, 0]
def k0_off31 (d0 : Dev nD) (c0_i32_462 : BitVec 32) : Fin 4 → Nat :=
  let c3_463 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v554 : BitVec 32 := Scalar.addi v504 c0_i32_462
  let v555 : Index := Scalar.indexCast v554
  let c6_464 : Index := 6#32
  let c0_465 : Index := 0#32
  ![3, v555.toNat, 6, 0]
def k0_off32 (d0 : Dev nD) (c0_i32_469 : BitVec 32) : Fin 4 → Nat :=
  let c3_470 : Index := 3#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32_418 : BitVec 32 := 256#32
  let v504 : BitVec 32 := Scalar.muli v6 c256_i32_418
  let v562 : BitVec 32 := Scalar.addi v504 c0_i32_469
  let v563 : Index := Scalar.indexCast v562
  let c7_471 : Index := 7#32
  let c0_472 : Index := 0#32
  ![3, v563.toNat, 7, 0]
def k0_dev8 (d0 : Dev nD) : Nat :=
  let c0_i32_483 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_482 : BitVec 32 := 2#32
  let v574 : BitVec 32 := Scalar.muli v6 c2_i32_482
  let v575 : BitVec 32 := Scalar.addi c0_i32_483 v574
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_484 : BitVec 32 := 1#32
  let v576 : BitVec 32 := Scalar.muli v5 c1_i32_484
  let v577 : BitVec 32 := Scalar.addi v575 v576
  v577.toNat
def k0_dev9 (d0 : Dev nD) : Nat :=
  let c0_i32_554 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_553 : BitVec 32 := 2#32
  let v656 : BitVec 32 := Scalar.muli v6 c2_i32_553
  let v657 : BitVec 32 := Scalar.addi c0_i32_554 v656
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_555 : BitVec 32 := 1#32
  let v658 : BitVec 32 := Scalar.muli v5 c1_i32_555
  let v659 : BitVec 32 := Scalar.addi v657 v658
  v659.toNat
def k0_off33 (d0 : Dev nD) (c0_i32_562 : BitVec 32) : Fin 4 → Nat :=
  let c0_563 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v670 : BitVec 32 := Scalar.addi v668 c0_i32_562
  let v671 : Index := Scalar.indexCast v670
  let c0_564 : Index := 0#32
  let c0_565 : Index := 0#32
  ![0, v671.toNat, 0, 0]
def k0_off34 (d0 : Dev nD) (c0_i32_569 : BitVec 32) : Fin 4 → Nat :=
  let c0_570 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v678 : BitVec 32 := Scalar.addi v668 c0_i32_569
  let v679 : Index := Scalar.indexCast v678
  let c1_571 : Index := 1#32
  let c0_572 : Index := 0#32
  ![0, v679.toNat, 1, 0]
def k0_off35 (d0 : Dev nD) (c0_i32_576 : BitVec 32) : Fin 4 → Nat :=
  let c0_577 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v686 : BitVec 32 := Scalar.addi v668 c0_i32_576
  let v687 : Index := Scalar.indexCast v686
  let c2_578 : Index := 2#32
  let c0_579 : Index := 0#32
  ![0, v687.toNat, 2, 0]
def k0_off36 (d0 : Dev nD) (c0_i32_583 : BitVec 32) : Fin 4 → Nat :=
  let c0_584 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v694 : BitVec 32 := Scalar.addi v668 c0_i32_583
  let v695 : Index := Scalar.indexCast v694
  let c3_585 : Index := 3#32
  let c0_586 : Index := 0#32
  ![0, v695.toNat, 3, 0]
def k0_off37 (d0 : Dev nD) (c0_i32_590 : BitVec 32) : Fin 4 → Nat :=
  let c0_591 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v702 : BitVec 32 := Scalar.addi v668 c0_i32_590
  let v703 : Index := Scalar.indexCast v702
  let c4_592 : Index := 4#32
  let c0_593 : Index := 0#32
  ![0, v703.toNat, 4, 0]
def k0_off38 (d0 : Dev nD) (c0_i32_597 : BitVec 32) : Fin 4 → Nat :=
  let c0_598 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v710 : BitVec 32 := Scalar.addi v668 c0_i32_597
  let v711 : Index := Scalar.indexCast v710
  let c5_599 : Index := 5#32
  let c0_600 : Index := 0#32
  ![0, v711.toNat, 5, 0]
def k0_off39 (d0 : Dev nD) (c0_i32_604 : BitVec 32) : Fin 4 → Nat :=
  let c0_605 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v718 : BitVec 32 := Scalar.addi v668 c0_i32_604
  let v719 : Index := Scalar.indexCast v718
  let c6_606 : Index := 6#32
  let c0_607 : Index := 0#32
  ![0, v719.toNat, 6, 0]
def k0_off40 (d0 : Dev nD) (c0_i32_611 : BitVec 32) : Fin 4 → Nat :=
  let c0_612 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_560 : BitVec 32 := 256#32
  let v668 : BitVec 32 := Scalar.muli v2 c256_i32_560
  let v726 : BitVec 32 := Scalar.addi v668 c0_i32_611
  let v727 : Index := Scalar.indexCast v726
  let c7_613 : Index := 7#32
  let c0_614 : Index := 0#32
  ![0, v727.toNat, 7, 0]
def k0_off41 (d0 : Dev nD) (c0_i32_712 : BitVec 32) : Fin 4 → Nat :=
  let c1_713 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v836 : BitVec 32 := Scalar.addi v834 c0_i32_712
  let v837 : Index := Scalar.indexCast v836
  let c0_714 : Index := 0#32
  let c0_715 : Index := 0#32
  ![1, v837.toNat, 0, 0]
def k0_off42 (d0 : Dev nD) (c0_i32_719 : BitVec 32) : Fin 4 → Nat :=
  let c1_720 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v844 : BitVec 32 := Scalar.addi v834 c0_i32_719
  let v845 : Index := Scalar.indexCast v844
  let c1_721 : Index := 1#32
  let c0_722 : Index := 0#32
  ![1, v845.toNat, 1, 0]
def k0_off43 (d0 : Dev nD) (c0_i32_726 : BitVec 32) : Fin 4 → Nat :=
  let c1_727 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v852 : BitVec 32 := Scalar.addi v834 c0_i32_726
  let v853 : Index := Scalar.indexCast v852
  let c2_728 : Index := 2#32
  let c0_729 : Index := 0#32
  ![1, v853.toNat, 2, 0]
def k0_off44 (d0 : Dev nD) (c0_i32_733 : BitVec 32) : Fin 4 → Nat :=
  let c1_734 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v860 : BitVec 32 := Scalar.addi v834 c0_i32_733
  let v861 : Index := Scalar.indexCast v860
  let c3_735 : Index := 3#32
  let c0_736 : Index := 0#32
  ![1, v861.toNat, 3, 0]
def k0_off45 (d0 : Dev nD) (c0_i32_740 : BitVec 32) : Fin 4 → Nat :=
  let c1_741 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v868 : BitVec 32 := Scalar.addi v834 c0_i32_740
  let v869 : Index := Scalar.indexCast v868
  let c4_742 : Index := 4#32
  let c0_743 : Index := 0#32
  ![1, v869.toNat, 4, 0]
def k0_off46 (d0 : Dev nD) (c0_i32_747 : BitVec 32) : Fin 4 → Nat :=
  let c1_748 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v876 : BitVec 32 := Scalar.addi v834 c0_i32_747
  let v877 : Index := Scalar.indexCast v876
  let c5_749 : Index := 5#32
  let c0_750 : Index := 0#32
  ![1, v877.toNat, 5, 0]
def k0_off47 (d0 : Dev nD) (c0_i32_754 : BitVec 32) : Fin 4 → Nat :=
  let c1_755 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v884 : BitVec 32 := Scalar.addi v834 c0_i32_754
  let v885 : Index := Scalar.indexCast v884
  let c6_756 : Index := 6#32
  let c0_757 : Index := 0#32
  ![1, v885.toNat, 6, 0]
def k0_off48 (d0 : Dev nD) (c0_i32_761 : BitVec 32) : Fin 4 → Nat :=
  let c1_762 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_710 : BitVec 32 := 256#32
  let v834 : BitVec 32 := Scalar.muli v2 c256_i32_710
  let v892 : BitVec 32 := Scalar.addi v834 c0_i32_761
  let v893 : Index := Scalar.indexCast v892
  let c7_763 : Index := 7#32
  let c0_764 : Index := 0#32
  ![1, v893.toNat, 7, 0]
def k0_off49 (d0 : Dev nD) (c0_i32_862 : BitVec 32) : Fin 4 → Nat :=
  let c2_863 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1002 : BitVec 32 := Scalar.addi v1000 c0_i32_862
  let v1003 : Index := Scalar.indexCast v1002
  let c0_864 : Index := 0#32
  let c0_865 : Index := 0#32
  ![2, v1003.toNat, 0, 0]
def k0_off50 (d0 : Dev nD) (c0_i32_869 : BitVec 32) : Fin 4 → Nat :=
  let c2_870 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1010 : BitVec 32 := Scalar.addi v1000 c0_i32_869
  let v1011 : Index := Scalar.indexCast v1010
  let c1_871 : Index := 1#32
  let c0_872 : Index := 0#32
  ![2, v1011.toNat, 1, 0]
def k0_off51 (d0 : Dev nD) (c0_i32_876 : BitVec 32) : Fin 4 → Nat :=
  let c2_877 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1018 : BitVec 32 := Scalar.addi v1000 c0_i32_876
  let v1019 : Index := Scalar.indexCast v1018
  let c2_878 : Index := 2#32
  let c0_879 : Index := 0#32
  ![2, v1019.toNat, 2, 0]
def k0_off52 (d0 : Dev nD) (c0_i32_883 : BitVec 32) : Fin 4 → Nat :=
  let c2_884 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1026 : BitVec 32 := Scalar.addi v1000 c0_i32_883
  let v1027 : Index := Scalar.indexCast v1026
  let c3_885 : Index := 3#32
  let c0_886 : Index := 0#32
  ![2, v1027.toNat, 3, 0]
def k0_off53 (d0 : Dev nD) (c0_i32_890 : BitVec 32) : Fin 4 → Nat :=
  let c2_891 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1034 : BitVec 32 := Scalar.addi v1000 c0_i32_890
  let v1035 : Index := Scalar.indexCast v1034
  let c4_892 : Index := 4#32
  let c0_893 : Index := 0#32
  ![2, v1035.toNat, 4, 0]
def k0_off54 (d0 : Dev nD) (c0_i32_897 : BitVec 32) : Fin 4 → Nat :=
  let c2_898 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1042 : BitVec 32 := Scalar.addi v1000 c0_i32_897
  let v1043 : Index := Scalar.indexCast v1042
  let c5_899 : Index := 5#32
  let c0_900 : Index := 0#32
  ![2, v1043.toNat, 5, 0]
def k0_off55 (d0 : Dev nD) (c0_i32_904 : BitVec 32) : Fin 4 → Nat :=
  let c2_905 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1050 : BitVec 32 := Scalar.addi v1000 c0_i32_904
  let v1051 : Index := Scalar.indexCast v1050
  let c6_906 : Index := 6#32
  let c0_907 : Index := 0#32
  ![2, v1051.toNat, 6, 0]
def k0_off56 (d0 : Dev nD) (c0_i32_911 : BitVec 32) : Fin 4 → Nat :=
  let c2_912 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_860 : BitVec 32 := 256#32
  let v1000 : BitVec 32 := Scalar.muli v2 c256_i32_860
  let v1058 : BitVec 32 := Scalar.addi v1000 c0_i32_911
  let v1059 : Index := Scalar.indexCast v1058
  let c7_913 : Index := 7#32
  let c0_914 : Index := 0#32
  ![2, v1059.toNat, 7, 0]
def k0_off57 (d0 : Dev nD) (c0_i32_1012 : BitVec 32) : Fin 4 → Nat :=
  let c3_1013 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1168 : BitVec 32 := Scalar.addi v1166 c0_i32_1012
  let v1169 : Index := Scalar.indexCast v1168
  let c0_1014 : Index := 0#32
  let c0_1015 : Index := 0#32
  ![3, v1169.toNat, 0, 0]
def k0_off58 (d0 : Dev nD) (c0_i32_1019 : BitVec 32) : Fin 4 → Nat :=
  let c3_1020 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1176 : BitVec 32 := Scalar.addi v1166 c0_i32_1019
  let v1177 : Index := Scalar.indexCast v1176
  let c1_1021 : Index := 1#32
  let c0_1022 : Index := 0#32
  ![3, v1177.toNat, 1, 0]
def k0_off59 (d0 : Dev nD) (c0_i32_1026 : BitVec 32) : Fin 4 → Nat :=
  let c3_1027 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1184 : BitVec 32 := Scalar.addi v1166 c0_i32_1026
  let v1185 : Index := Scalar.indexCast v1184
  let c2_1028 : Index := 2#32
  let c0_1029 : Index := 0#32
  ![3, v1185.toNat, 2, 0]
def k0_off60 (d0 : Dev nD) (c0_i32_1033 : BitVec 32) : Fin 4 → Nat :=
  let c3_1034 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1192 : BitVec 32 := Scalar.addi v1166 c0_i32_1033
  let v1193 : Index := Scalar.indexCast v1192
  let c3_1035 : Index := 3#32
  let c0_1036 : Index := 0#32
  ![3, v1193.toNat, 3, 0]
def k0_off61 (d0 : Dev nD) (c0_i32_1040 : BitVec 32) : Fin 4 → Nat :=
  let c3_1041 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1200 : BitVec 32 := Scalar.addi v1166 c0_i32_1040
  let v1201 : Index := Scalar.indexCast v1200
  let c4_1042 : Index := 4#32
  let c0_1043 : Index := 0#32
  ![3, v1201.toNat, 4, 0]
def k0_off62 (d0 : Dev nD) (c0_i32_1047 : BitVec 32) : Fin 4 → Nat :=
  let c3_1048 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1208 : BitVec 32 := Scalar.addi v1166 c0_i32_1047
  let v1209 : Index := Scalar.indexCast v1208
  let c5_1049 : Index := 5#32
  let c0_1050 : Index := 0#32
  ![3, v1209.toNat, 5, 0]
def k0_off63 (d0 : Dev nD) (c0_i32_1054 : BitVec 32) : Fin 4 → Nat :=
  let c3_1055 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1216 : BitVec 32 := Scalar.addi v1166 c0_i32_1054
  let v1217 : Index := Scalar.indexCast v1216
  let c6_1056 : Index := 6#32
  let c0_1057 : Index := 0#32
  ![3, v1217.toNat, 6, 0]
def k0_off64 (d0 : Dev nD) (c0_i32_1061 : BitVec 32) : Fin 4 → Nat :=
  let c3_1062 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_1010 : BitVec 32 := 256#32
  let v1166 : BitVec 32 := Scalar.muli v2 c256_i32_1010
  let v1224 : BitVec 32 := Scalar.addi v1166 c0_i32_1061
  let v1225 : Index := Scalar.indexCast v1224
  let c7_1063 : Index := 7#32
  let c0_1064 : Index := 0#32
  ![3, v1225.toNat, 7, 0]
abbrev stage0_0 : Fin 1 → Memref sig .tc .vmem S4x512x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S1024x1024, .f32⟩
  | .hbm, ⟨2, _⟩ => ⟨S4x512x1024, .f32⟩
  | .hbm, ⟨3, _⟩ => ⟨S4x512x1024, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
The kernel's body written as loops over the eight chunks.

The printed body spells every chunk out, and is cut by statement count into forty-five parts. Here the same program is
written with the chunk number `k` as a parameter: a chunk's partial product (`partialProg`), its computing and sending
(`sendChunk`), its receiving and adding (`recvChunk`), the wait for its copy to have left (`drainChunk`), and a loop of
each over the eight chunks (`forChunks`).
`body_eq_program` says the two are one program, by unfolding, so each later fact is stated once, for a chunk `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.OutProj

open Cert.KernelIdeal Cert.KernelIdeal.Gen
open Idealize.ShloMosaic Idealize.ShloMosaic.TcCoe Idealize.SL.Sem

variable {F : FTy → Type} [FloatOps F]

/-! ## The buffers -/

/-- The block of `O`, the block of `Wo`, the result's block, the send buffer and the receive buffer. -/
abbrev oM : Memref sig .tc .vmem S4x512x8x64 .f32 := Memref.whole cc0_stg0_0
abbrev wM : Memref sig .tc .vmem S512x1024 .f32 := Memref.whole cc0_stg1_0
abbrev rM : Memref sig .tc .vmem S4x256x1024 .f32 := Memref.whole cc0_stg2_0
abbrev sndM : Memref sig .tc .vmem S8x128x1024 .bf16 := Memref.whole cc0_scratch0
abbrev rcvM : Memref sig .tc .vmem S8x128x1024 .bf16 := Memref.whole cc0_scratch1

/-- The type of a fragment of the body. -/
local notation "Body" => Prog (TpuEff nD τ sig (Elt F) Λ₀ Proc.tc)

/-! ## Where a chunk lies -/

theorem chunk_inb (k : Fin 8) : ∀ a, (![k.val, 0, 0] : Fin 3 → Nat) a + S1x128x1024.size a ≤ S8x128x1024.size a := by
  revert k; decide
/-- Chunk `k` of the send or the receive buffer. -/
abbrev chunk (k : Fin 8) : Rect S8x128x1024 := Rect.unit (s := S8x128x1024) ![k.val, 0, 0] S1x128x1024.size (chunk_inb k)

theorem piece_inb (k : Fin 8) :
    ∀ a, (![k.val / 2, k.val % 2 * 128, 0] : Fin 3 → Nat) a + S1x128x1024.size a ≤ S4x256x1024.size a := by
  revert k; decide
/-- Chunk `k` of the result: half `k % 2` of the rows of batch entry `k / 2`. -/
abbrev piece (k : Fin 8) : Rect S4x256x1024 :=
  Rect.unit (s := S4x256x1024) ![k.val / 2, k.val % 2 * 128, 0] S1x128x1024.size (piece_inb k)

theorem sem_inb (k : Fin 8) : ∀ a, (![k.val] : Fin 1 → Nat) a + S1.size a ≤ S8.size a := by revert k; decide
/-- The semaphore of chunk `k`, of an array of eight. -/
abbrev semAt (s : DmaSems sig S8) (k : Fin 8) : DmaSem sig :=
  ((s.slice (Rect.unit (s := S8) ![k.val] S1.size (sem_inb k))).squeeze S_ squeezes_S1_S_).sem
abbrev sendSem (k : Fin 8) : DmaSem sig := semAt cc0_scratch2 k
abbrev recvSem (k : Fin 8) : DmaSem sig := semAt cc0_scratch3 k
abbrev barSem : Sem sig := (SemArray.scalar (sig.barrier 0 rfl) : Sems sig S_).sem

/-- Chunk `k` of the send buffer as a matrix, and of the receive buffer. -/
abbrev sndV (k : Fin 8) : Memref sig .tc .vmem S128x1024 .bf16 :=
  (sndM.slice (chunk k) (fun _ => rfl)).squeeze S128x1024 squeezes_S1x128x1024_S128x1024
abbrev rcvV (k : Fin 8) : Memref sig .tc .vmem S128x1024 .bf16 :=
  (rcvM.slice (chunk k) (fun _ => rfl)).squeeze S128x1024 squeezes_S1x128x1024_S128x1024

theorem chunk_packed (k : Fin 8) : (chunk k).PackedRows (EltTy.packing .bf16) := by
  fin_cases k
  · exact packedbf16_S8x128x1024_S1x128x1024_0_0_0
  · exact packedbf16_S8x128x1024_S1x128x1024_1_0_0
  · exact packedbf16_S8x128x1024_S1x128x1024_2_0_0
  · exact packedbf16_S8x128x1024_S1x128x1024_3_0_0
  · exact packedbf16_S8x128x1024_S1x128x1024_4_0_0
  · exact packedbf16_S8x128x1024_S1x128x1024_5_0_0
  · exact packedbf16_S8x128x1024_S1x128x1024_6_0_0
  · exact packedbf16_S8x128x1024_S1x128x1024_7_0_0
theorem chunk_words (k : Fin 8) : (chunk k).WholeWords (EltTy.packing .bf16) := by
  fin_cases k
  · exact wordsbf16_S8x128x1024_S1x128x1024_0_0_0
  · exact wordsbf16_S8x128x1024_S1x128x1024_1_0_0
  · exact wordsbf16_S8x128x1024_S1x128x1024_2_0_0
  · exact wordsbf16_S8x128x1024_S1x128x1024_3_0_0
  · exact wordsbf16_S8x128x1024_S1x128x1024_4_0_0
  · exact wordsbf16_S8x128x1024_S1x128x1024_5_0_0
  · exact wordsbf16_S8x128x1024_S1x128x1024_6_0_0
  · exact wordsbf16_S8x128x1024_S1x128x1024_7_0_0

theorem snd_exact (k : Fin 8) : (sndV k).view.WordExact :=
  ((Memref.isWhole_whole cc0_scratch0).wordExact_slice rfl _ (chunk_words k)).reshape _ _
theorem rcv_exact (k : Fin 8) : (rcvV k).view.WordExact :=
  ((Memref.isWhole_whole cc0_scratch1).wordExact_slice rfl _ (chunk_words k)).reshape _ _
theorem snd_stores (k : Fin 8) : (sndM.access (chunk k)).Stores Finset.univ :=
  View.stores_vmem h_S1x128x1024 ((Memref.isWhole_whole cc0_scratch0).storeExact_slice rfl _ (chunk_packed k)) (fun _ => rfl)

/-! ## A chunk's partial product -/

/-- A device's row block of the mesh (`x`), as the kernel computes it, and its peer's. -/
abbrev ownX (c : Dev nD) : BitVec 32 := Scalar.remsi (Scalar.divsi (Dev.word c) 2#32) 2#32
abbrev peerX (c : Dev nD) : BitVec 32 := Scalar.subi 1#32 (ownX c)

/-- The offsets of head `h`'s rows of chunk `k` in the block of `O`, the rows starting at block `x` of 256. -/
def rowOff (x : BitVec 32) (k : Fin 8) (h : Nat) : Fin 4 → Nat :=
  ![k.val / 2, (Scalar.indexCast (Scalar.addi (Scalar.muli x 256#32) (BitVec.ofNat 32 (k.val % 2 * 128)))).toNat, h, 0]

/-- A row block the kernel asks for is 0 or 1. -/
def IsX (x : BitVec 32) : Prop := x = 0#32 ∨ x = 1#32
theorem isX_own (c : Dev nD) : IsX (ownX c) := by revert c; unfold IsX; decide
theorem isX_peer (c : Dev nD) : IsX (peerX c) := by revert c; unfold IsX; decide

theorem rowOff_eq {x : BitVec 32} (hx : IsX x) (k : Fin 8) (h : Nat) :
    rowOff x k h = ![k.val / 2, x.toNat * 256 + k.val % 2 * 128, h, 0] := by
  rcases hx with rfl | rfl <;> fin_cases k <;> rfl

theorem rowOff_inb {x : BitVec 32} (hx : IsX x) (k : Fin 8) {h : Nat} (hh : h < 8) :
    ∀ a, rowOff x k h a + S1x128x1x64.size a ≤ S4x512x8x64.size a := by
  have hx1 : x.toNat ≤ 1 := by rcases hx with rfl | rfl <;> decide
  have hk := k.isLt
  rw [rowOff_eq hx]
  intro a; fin_cases a <;> simp [S1x128x1x64, S4x512x8x64] <;> omega

theorem head_inb {h : Nat} (hh : h < 8) :
    ∀ a, (![h * 64, 0] : Fin 2 → Nat) a + S64x1024.size a ≤ S512x1024.size a := by
  intro a; fin_cases a <;> simp [S64x1024, S512x1024] <;> omega

/-- The rectangle of `O` holding head `h`'s rows of chunk `k`, and of `Wo` holding head `h`'s rows. -/
abbrev rows {x : BitVec 32} (hx : IsX x) (k : Fin 8) {h : Nat} (hh : h < 8) : Rect S4x512x8x64 :=
  Rect.unit (s := S4x512x8x64) (rowOff x k h) S1x128x1x64.size (rowOff_inb hx k hh)
abbrev headRows {h : Nat} (hh : h < 8) : Rect S512x1024 := Rect.unit (s := S512x1024) ![h * 64, 0] S64x1024.size (head_inb hh)

/-- One head's product added to the accumulator. -/
def addHead (acc : FVec F S128x1024 .f32) (a : Vec F S1x128x1x64 .f32) (w : Vec F S64x1024 .f32) : FVec F S128x1024 .f32 :=
  addf acc (matmul dot_S128x64_S64x1024_S128x1024_1_0_0_1_n_n none (shapeCast S128x64 a shapeCasts_S1x128x1x64_S128x64)
    (shapeCast S64x1024 w shapeCasts_S64x1024_S64x1024) (constant S128x1024 .f32 0x00000000#32))

/-- The accumulator before the first head. -/
def zeroAcc : FVec F S128x1024 .f32 := broadcast S128x1024 (Scalar.ofBits .f32 0x00000000#32 : F .f32)

/-- The partial product of chunk `k` over the first `n` heads. -/
def partialProg {x : BitVec 32} (hx : IsX x) (k : Fin 8) : (n : Nat) → n ≤ 8 → Body (FVec F S128x1024 .f32)
  | 0, _ => pure zeroAcc
  | n + 1, hn => do
    let acc ← partialProg hx k n (Nat.le_of_succ_le hn)
    let a : Vec F S1x128x1x64 .f32 ← Prog.lift (.load oM (rows hx k hn).toLoadRect (View.loadsAt_vmem h_S1x128x1x64))
    let w : Vec F S64x1024 .f32 ← Prog.lift (.load wM (headRows hn).toLoadRect (View.loadsAt_vmem h_S64x1024))
    pure (addHead acc a w)

/-! ## The chunks' steps -/

/-- A partial product as it is stored in the send buffer. -/
def packed (v : FVec F S128x1024 .f32) : FVec F S1x128x1024 .bf16 :=
  shapeCast S1x128x1024 (truncf .bf16 v bitsLt_bf16_f32) shapeCasts_S128x1024_S1x128x1024

/-- A device's own partial product with the received one added, as it is stored in the result. -/
def summed (v : FVec F S128x1024 .f32) (r : Vec F S1x128x1024 .bf16) : FVec F S1x128x1024 .f32 :=
  shapeCast S1x128x1024 (addf v (extf .f32 (shapeCast S128x1024 r shapeCasts_S1x128x1024_S128x1024) bitsLt_bf16_f32))
    shapeCasts_S128x1024_S1x128x1024

/-- Compute the partial product of chunk `k` over the peer's rows, store it in the send buffer and start its copy. -/
def sendChunk (c : Dev nD) (p : Dev nD) (k : Fin 8) : Body PUnit := do
  let v ← partialProg (isX_peer c) k 8 le_rfl
  let _ : Vec F S1x128x1024 .bf16 ← Prog.lift (.load sndM (chunk k).toLoadRect (View.loadsAt_vmem h_S1x128x1024))
  Prog.lift (.store sndM (chunk k) (packed v) Finset.univ (snd_stores k) (.inl rfl))
  Prog.lift (.enqueueDma (sndV k) (.remote (Dev.tc p) (rcvV k) (.dma (sendSem k))) (.dma (recvSem k))
    (snd_exact k) (rcv_exact k) ⟨⟨rfl, Or.inl rfl⟩, trivial⟩)

/-- Compute the partial product of chunk `k` over the device's own rows, wait for the peer's, and store their sum. -/
def recvChunk (c : Dev nD) (k : Fin 8) : Body PUnit := do
  let v ← partialProg (isX_own c) k 8 le_rfl
  Prog.lift (.waitDma2 (recvSem k) (sndV k) (rcvV k) (snd_exact k) (rcv_exact k))
  let r : Vec F S1x128x1024 .bf16 ← Prog.lift (.load rcvM (chunk k).toLoadRect (View.loadsAt_vmem h_S1x128x1024))
  let _ : Vec F S1x128x1024 .f32 ← Prog.lift (.load rM (piece k).toLoadRect (View.loadsAt_vmem h_S1x128x1024))
  Prog.lift (.store rM (piece k) (summed v r) Finset.univ (View.stores_vmem_bits_univ h_S1x128x1024 rfl) (.inl rfl))

/-- Wait for the copy of chunk `k` to have left. -/
def drainChunk (k : Fin 8) : Body PUnit :=
  Prog.lift (.waitDma2 (sendSem k) (rcvV k) (sndV k) (rcv_exact k) (snd_exact k))

/-- A step for each chunk of a list, in order. -/
def forChunks (step : Fin 8 → Body PUnit) : List (Fin 8) → Body PUnit
  | [] => pure ⟨⟩
  | k :: ks => do step k; forChunks step ks

/-- The device chunk `k` is sent to, as the kernel computes it. -/
def target (c : Dev nD) : Dev nD := ⟨k0_dev1 c, k0_dev1_lt c⟩

/-- The chunks in order. -/
abbrev chunks : List (Fin 8) := [0, 1, 2, 3, 4, 5, 6, 7]

/-- The body. -/
def program : Body PUnit := do
  let c : Dev nD ← Prog.lift .deviceId
  semSignalWord (target c) barSem 1#32
  semWaitWord barSem 1#32
  forChunks (sendChunk c (target c)) chunks
  forChunks (recvChunk c) chunks
  forChunks drainChunk chunks

set_option maxRecDepth 65536 in
set_option maxHeartbeats 2000000 in
/-- The printed body up to its last two waits. -/
theorem part45_eq :
    k0_part45 (F := F) oM (Memref.isWhole_whole _) wM (Memref.isWhole_whole _) rM (Memref.isWhole_whole _)
      sndM (Memref.isWhole_whole _) rcvM (Memref.isWhole_whole _) cc0_scratch2 cc0_scratch3
      = (do
        let c : Dev nD ← Prog.lift .deviceId
        semSignalWord (target c) barSem 1#32
        semWaitWord barSem 1#32
        forChunks (sendChunk c (target c)) chunks
        forChunks (recvChunk c) chunks
        forChunks drainChunk [0, 1, 2, 3, 4, 5]) := by
  rw [k0_part45_eq_skeleton]
  unfold k0_part45_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  rfl

/-- The printed body, on the launch's buffers, is `program`. -/
theorem body_eq_program :
    cc0_body (F := F) oM (Memref.isWhole_whole _) wM (Memref.isWhole_whole _) rM (Memref.isWhole_whole _)
      sndM (Memref.isWhole_whole _) rcvM (Memref.isWhole_whole _) cc0_scratch2 cc0_scratch3 = program := by
  rw [cc0_body_eq_skeleton]
  unfold cc0_body_skel
  rw [part45_eq]
  simp only [program, forChunks, bind_assoc, pure_bind]
  rfl

end Cert.OutProj

end
-- ==== Proof.Protocol.lean ====
/-
The devices' protocol.

The mesh is 2 × 2; device `c` and its peer `peer c = c + 2 (mod 4)` hold the two halves of the heads, and each needs the
other's partial sums for its own half of the rows. Per device `c` there are seventeen semaphores:

* the barrier. `peer c` signals it once (one unit), when it enters the kernel, and hands `c` its whole receive buffer,
  chunk by chunk, at any contents. `c` waits for it before its first copy. So no copy lands in a buffer whose owner has
  not entered.
* the send semaphore of chunk `k`. `c`'s own copy of chunk `k` raises it by the chunk's size when the chunk has left, and
  hands back chunk `k` of `c`'s send buffer. `c` waits for it at the very end.
* the receive semaphore of chunk `k`. `peer c`'s copy of chunk `k` raises it by the chunk's size when the chunk has
  landed, and hands `c` chunk `k` of its receive buffer holding `sent (peer c) k`: the partial product of the peer's heads
  over `c`'s rows, rounded to bf16. `c` waits for it before it reads the chunk.

Each is used for one round. A device at its barrier owes only copies into its peer; a device waiting on a receive
semaphore or a send semaphore owes nothing any more. So the order barrier < receive lets every wait end.
-/
module

public import proofs.«01_k».proof.Proof.Program

@[expose] public section

noncomputable section

namespace Cert.OutProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The state of the protocol's semaphores: one duty each. -/
abbrev UX : Type := URounds (GSem nD τ sig) Unit
/-- Beside the launch's own. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The peer -/

/-- The device holding the other half of the heads. -/
def peer (c : Dev nD) : Dev nD := ⟨(c.val + 2) % 4, Nat.mod_lt _ (by decide)⟩

theorem peer_peer (c : Dev nD) : peer (peer c) = c := by revert c; decide
/-- The device the kernel's arithmetic names is the peer. -/
theorem target_eq (c : Dev nD) : target c = peer c := by revert c; decide

/-! ## The semaphores -/

/-- The semaphores of a device: its barrier, the send semaphores, the receive semaphores. -/
abbrev Slot : Type := Unit ⊕ Fin 8 ⊕ Fin 8
abbrev Slot.bar : Slot := .inl ()
abbrev Slot.snd (k : Fin 8) : Slot := .inr (.inl k)
abbrev Slot.rcv (k : Fin 8) : Slot := .inr (.inr k)

def slotSem : Slot → SemLoc sig
  | .inl _ => .reg barSem
  | .inr (.inl k) => .dma (sendSem k)
  | .inr (.inr k) => .dma (recvSem k)

theorem slotSem_injective : Function.Injective slotSem := by decide

/-- The slot a semaphore is, if it is one of the protocol's. -/
def slotOf (sm : SemLoc sig) : Option Slot := if h : ∃ s, slotSem s = sm then some h.choose else none

theorem slotOf_slotSem (s : Slot) : slotOf (slotSem s) = some s := by
  have h : ∃ s', slotSem s' = slotSem s := ⟨s, rfl⟩
  rw [slotOf, dif_pos h]
  exact congrArg some (slotSem_injective h.choose_spec)

/-- A device's semaphore of a slot. -/
abbrev cell (x : Dev nD × Slot) : GSem nD τ sig := ((x.1 : Thread nD τ), slotSem x.2)

theorem cell_injective : Function.Injective cell := by
  rintro ⟨c, s⟩ ⟨c', s'⟩ h
  have h1 : c = c' := congrArg (fun g : GSem nD τ sig => g.1.1) h
  have h2 : s = s' := slotSem_injective (congrArg Prod.snd h)
  rw [h1, h2]

/-! ## What a chunk holds -/

/-- The block of `O` and the block of `Wo` as the launch stages them. -/
def oIn (c : Dev nD) : (cc0_stg0_0 : Ref sig .tc).ty.Contents (Elt F) :=
  (win0_0.blk (0 : Fin 1)).view.read (Elt F) ((s₀ m ρ).mem ((c : Thread nD τ).loc main_arg0))
def wIn (c : Dev nD) : (cc0_stg1_0 : Ref sig .tc).ty.Contents (Elt F) :=
  (win0_1.blk (0 : Fin 1)).view.read (Elt F) ((s₀ m ρ).mem ((c : Thread nD τ).loc main_arg1))

/-- The partial product `partialProg` computes from a block of `O` and one of `Wo`. -/
def partialVal (o : (cc0_stg0_0 : Ref sig .tc).ty.Contents (Elt F)) (w : (cc0_stg1_0 : Ref sig .tc).ty.Contents (Elt F))
    {x : BitVec 32} (hx : IsX x) (k : Fin 8) : (n : Nat) → n ≤ 8 → FVec F S128x1024 .f32
  | 0, _ => zeroAcc
  | n + 1, hn => addHead (partialVal o w hx k n (Nat.le_of_succ_le hn)) (oM.view.readAt (Elt F) (rows hx k hn).toLoadRect o)
      (wM.view.readAt (Elt F) (headRows hn).toLoadRect w)

/-- What device `c` sends as chunk `k`. -/
def sent (c : Dev nD) (k : Fin 8) : Vec F S1x128x1024 .bf16 :=
  packed (partialVal (oIn m ρ c) (wIn m ρ c) (isX_peer c) k 8 le_rfl)
/-- What device `c` stores as chunk `k` of its result. -/
def outChunk (c : Dev nD) (k : Fin 8) : Vec F S1x128x1024 .f32 :=
  summed (partialVal (oIn m ρ c) (wIn m ρ c) (isX_own c) k 8 le_rfl) (sent m ρ (peer c) k)

/-- Device `c` owns chunk `k` of its send buffer, of its receive buffer, of its result, with contents `X`. -/
def sndAt (c : Dev nD) (k : Fin 8) (X : Vec F S1x128x1024 .bf16) : sProp 𝕄 :=
  owns (c : Thread nD τ) (sndM.slice (chunk k) (fun _ => rfl)) fullShare X
def rcvAt (c : Dev nD) (k : Fin 8) (X : Vec F S1x128x1024 .bf16) : sProp 𝕄 :=
  owns (c : Thread nD τ) (rcvM.slice (chunk k) (fun _ => rfl)) fullShare X
def resAt (c : Dev nD) (k : Fin 8) (X : Vec F S1x128x1024 .f32) : sProp 𝕄 :=
  owns (c : Thread nD τ) (rM.slice (piece k) (fun _ => rfl)) fullShare X
/-- The same, with some contents. -/
def sndAny (c : Dev nD) (k : Fin 8) : sProp 𝕄 := iprop(∃ X, sndAt (F := F) c k X)
def rcvAny (c : Dev nD) (k : Fin 8) : sProp 𝕄 := iprop(∃ X, rcvAt (F := F) c k X)
def resAny (c : Dev nD) (k : Fin 8) : sProp 𝕄 := iprop(∃ X, resAt (F := F) c k X)

/-! ## The schedule -/

/-- The size of a chunk, in the unit a copy raises its semaphores by. -/
abbrev N : ℕ := (rcvV 0).view.dmaCredit
theorem N_pos : 0 < N := View.dmaCredit_pos _ (by decide)
theorem credit_snd (k : Fin 8) : (sndV k).view.dmaCredit = N := rfl
theorem credit_rcv (k : Fin 8) : (rcvV k).view.dmaCredit = N := rfl

/-- What a semaphore is raised by. -/
def units : Slot → ℕ
  | .inl _ => 1
  | .inr _ => N
theorem units_pos (s : Slot) : 0 < units s := by
  rcases s with _ | _
  · exact Nat.one_pos
  · exact N_pos

/-- What is handed to device `c` with the units of a semaphore of its. -/
def handed (c : Dev nD) : Slot → sProp 𝕄
  | .inl _ => bigSep Finset.univ fun k => rcvAny (F := F) (peer c) k
  | .inr (.inl k) => sndAny (F := F) c k
  | .inr (.inr k) => rcvAt c k (sent m ρ (peer c) k)

instance handed_storable (c : Dev nD) (s : Slot) : BI.Storable (upEmb : UEmb _ 𝕄) (handed m ρ c s) := by
  rcases s with _ | k | k
  · unfold handed rcvAny rcvAt; infer_instance
  · unfold handed sndAny sndAt; infer_instance
  · unfold handed rcvAt; infer_instance

/-- One round of one duty for each of the protocol's semaphores. -/
def plan : Rounds.Schedule (GSem nD τ sig) Unit 𝕄 where
  duties g r := if r = 0 ∧ g.1.2 = .tc ∧ (slotOf g.2).isSome then {()} else ∅
  unitless _ := False
  amount g _ _ := match slotOf g.2 with
    | some s => units s
    | none => 1
  payload g _ _ := match slotOf g.2 with
    | some s => handed m ρ g.1.1 s
    | none => iprop(emp)
  amount_pos g _ _ _ := by
    split
    · exact units_pos _
    · exact Nat.one_pos

instance plan_storable (g : GSem nD τ sig) (r : ℕ) (d : Unit) :
    BI.Storable (upEmb : UEmb _ 𝕄) ((plan (F := F) m ρ).payload g r d) := by
  dsimp only [plan]
  split <;> infer_instance

section Plan
variable (c : Dev nD) (s : Slot)

theorem plan_duties : (plan (F := F) m ρ).duties (cell (c, s)) 0 = {()} := by
  dsimp only [plan]; rw [slotOf_slotSem]; exact if_pos ⟨rfl, rfl, rfl⟩
theorem plan_later (g : GSem nD τ sig) : ∀ r, 1 ≤ r → (plan (F := F) m ρ).duties g r = ∅ :=
  fun r hr => by dsimp only [plan]; exact if_neg fun h => by omega
theorem plan_amount (d : Unit) : (plan (F := F) m ρ).amount (cell (c, s)) 0 d = units s := by
  dsimp only [plan]; rw [slotOf_slotSem]
theorem plan_payload (d : Unit) : (plan (F := F) m ρ).payload (cell (c, s)) 0 d = handed m ρ c s := by
  dsimp only [plan]; rw [slotOf_slotSem]
theorem plan_expect : (plan (F := F) m ρ).expect (cell (c, s)) 0 = units s := by
  unfold Schedule.expect Schedule.amountOf
  rw [plan_duties, Finset.sum_singleton, plan_amount]
theorem plan_rest :
    bigSep ((plan (F := F) m ρ).duties (cell (c, s)) 0 \ ∅) (fun d => (plan (F := F) m ρ).payload (cell (c, s)) 0 d) = handed m ρ c s := by
  rw [Finset.sdiff_empty, plan_duties, bigSep_singleton, plan_payload]

end Plan

/-! ## What is owed, and the levels -/

/-- The copies of the chunks of a list that device `c` has still to make. -/
def owe (c : Dev nD) : List (Fin 8) → CellTallies nD τ sig Unit
  | [] => 0
  | k :: ks => owe c ks + tallyAt (cell (peer c, .rcv k)) () N
/-- What device `c` owes on entry: its copies and the signal of its peer's barrier. -/
def owed₀ (c : Dev nD) : CellTallies nD τ sig Unit := owe c chunks + tallyAt (cell (peer c, .bar)) () 1

def levSet (g : GSem nD τ sig) : Finset Unit := if g.1.2 = .tc then {()} else ∅
/-- The barrier's level is 1 and a receive semaphore's 2; every other semaphore's is 0. -/
def lev (g : GSem nD τ sig) (_ : Unit) : ℕ :=
  match slotOf g.2 with
  | some (.inl _) => 1
  | some (.inr (.inr _)) => 2
  | _ => 0

theorem levSet_ne (g : GSem nD τ sig) (h : g.1.2 ≠ .tc) : levSet g = ∅ := if_neg h
theorem mem_levSet (c : Dev nD) (sm : SemLoc sig) (u : Unit) : u ∈ levSet ((c : Thread nD τ), sm) := by
  rw [show levSet ((c : Thread nD τ), sm) = {()} from if_pos rfl]; exact Finset.mem_singleton_self _

theorem pos_of_tallyAt {g₀ g : GSem nD τ sig} {n : ℕ} {u : Unit} (h : 0 < (tallyAt g₀ () n : CellTallies nD τ sig Unit) g u) : g = g₀ := by
  rw [tallyAt_apply] at h
  by_contra hn
  rw [if_neg fun h' => hn h'.1] at h
  exact Nat.lt_irrefl 0 h

theorem owe_pos {c : Dev nD} {ks : List (Fin 8)} {g : GSem nD τ sig} {u : Unit} (h : 0 < owe c ks g u) :
    ∃ k, g = cell (peer c, .rcv k) := by
  induction ks with
  | nil => exact absurd h (Nat.lt_irrefl 0)
  | cons k ks ih =>
    rw [owe, Pi.add_apply, Finsupp.add_apply] at h
    rcases Nat.eq_zero_or_pos (owe c ks g u) with h0 | h0
    · rw [h0, Nat.zero_add] at h; exact ⟨k, pos_of_tallyAt h⟩
    · exact ih h0

theorem lev_rcv (c : Dev nD) (k : Fin 8) (u : Unit) : lev (cell (c, .rcv k)) u = 2 := by
  unfold lev; rw [slotOf_slotSem]
theorem lev_bar (c : Dev nD) (u : Unit) : lev (cell (c, .bar)) u = 1 := by
  unfold lev; rw [slotOf_slotSem]

/-- A wait of level below everything owed may be made. -/
theorem may_wait (c : Dev nD) (sm : SemLoc sig) (O : CellTallies nD τ sig Unit) (n : ℕ) (hn : lev ((c : Thread nD τ), sm) () ≤ n)
    (hO : ∀ g u, 0 < O g u → ∃ d s, g = cell (d, s) ∧ n < lev g u) :
    (levAts levSet lev : sProp 𝕄) ⊢ MayWait (c : Thread nD τ) sm () O :=
  MayOwe.of_cut (L := levSet) (lev := lev) n (fun p hp => by rw [Finset.mem_singleton.mp hp]; exact mem_levSet _ _ _)
    (fun g u hg => by obtain ⟨d, s, rfl, -⟩ := hO g u hg; exact mem_levSet _ _ _)
    (fun p hp => by rw [Finset.mem_singleton.mp hp]; exact hn)
    (fun g u hg => by obtain ⟨d, s, -, h⟩ := hO g u hg; exact h)

/-- At its barrier a device owes its copies only. -/
theorem may_wait_bar (c : Dev nD) :
    (levAts levSet lev : sProp 𝕄) ⊢ MayWait (c : Thread nD τ) (.reg barSem) () (owe c chunks) :=
  may_wait c _ _ 1 (le_of_eq (lev_bar c ())) fun g u h => by
    obtain ⟨k, rfl⟩ := owe_pos h
    exact ⟨_, _, rfl, by rw [lev_rcv]; decide⟩

/-- On entry a semaphore of the launch's own may be waited for. -/
theorem may_wait_stage (c : Dev nD) (sm : SemLoc sig) (h : slotOf sm = none) (O : CellTallies nD τ sig Unit) (hO : O = owed₀ c ∨ O = 0) :
    (levAts levSet lev : sProp 𝕄) ⊢ MayWait (c : Thread nD τ) sm () O := by
  refine may_wait c sm O 0 (by unfold lev; rw [h]) fun g u hg => ?_
  rcases hO with rfl | rfl
  · rw [owed₀, Pi.add_apply, Finsupp.add_apply] at hg
    rcases Nat.eq_zero_or_pos (owe c chunks g u) with h0 | h0
    · rw [h0, Nat.zero_add] at hg
      obtain rfl := pos_of_tallyAt hg
      exact ⟨_, _, rfl, by rw [lev_bar]; decide⟩
    · obtain ⟨k, rfl⟩ := owe_pos h0
      exact ⟨_, _, rfl, by rw [lev_rcv]; decide⟩
  · exact absurd hg (Nat.lt_irrefl 0)

end Cert.OutProj

end
-- ==== Proof.Steps.lean ====
/-
One chunk's steps: the partial product, the send, the receive and the drain of chunk `k`, each proved once for every
device and every chunk, and the loop over the chunks.
-/
module

public import proofs.«01_k».proof.Proof.Protocol
public import Idealize.ShloMosaic.Lib.Pipeline.BigSepL
public import Idealize.ShloMosaic.Lib.ViewIndex

@[expose] public section

noncomputable section

namespace Cert.OutProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Body" => Prog (TpuEff nD τ sig (Elt F) Λ₀ Proc.tc)

variable (m : (ℓ : Loc nD τ sig) → Buf (Elt F) ℓ) (ρ : Dev nD → PrngReg)

/-- That a fragment of the body, run on device `c`, ends in `Q`. -/
abbrev runs (c : Dev nD) {α : Type} (p : Body α) (Q : α → sProp 𝕄) : sProp 𝕄 :=
  wp frame (wpE (defs₀ (F := F)) Variants.none (c : Thread nD τ) none) Set.univ p Q

/-! ## What every device knows -/

/-- One conjunct of a conjunction over a finite type. -/
theorem bigSep_pick {I : Type} [Fintype I] [DecidableEq I] (Φ : I → sProp 𝕄) (i : I) : bigSep Finset.univ Φ ⊢ Φ i :=
  bigSep_elim (Finset.mem_univ i)

/-- The protocol's invariants, at the names `K`, and that each of its semaphores is in its round. -/
def records (K : Dev nD × Slot → ℕ) : sProp 𝕄 :=
  iprop((bigSep Finset.univ fun x : Dev nD × Slot => cellInv EX (plan m ρ) (K x) (cell x))
    ∗ bigSep Finset.univ fun x : Dev nD × Slot => reached EX (cell x) 0)

instance records_persistent (K : Dev nD × Slot → ℕ) : BI.Persistent (records m ρ K) := by unfold records; infer_instance

theorem records_inv (K : Dev nD × Slot → ℕ) (x : Dev nD × Slot) : records m ρ K ⊢ cellInv EX (plan m ρ) (K x) (cell x) := by
  unfold records
  iintro ⟨H, -⟩
  iapply (bigSep_pick (fun x : Dev nD × Slot => cellInv EX (plan m ρ) (K x) (cell x)) x); iexact H
theorem records_reached (K : Dev nD × Slot → ℕ) (x : Dev nD × Slot) : records m ρ K ⊢ reached EX (cell x) 0 := by
  unfold records
  iintro ⟨-, H⟩
  iapply (bigSep_pick (fun x : Dev nD × Slot => (reached EX (cell x) 0 : sProp 𝕄)) x); iexact H

/-! ## The loop -/

/-- A step that turns `Φ k` into `Ψ k` and the state `I` before chunk `k` into that after it turns, in a loop, every `Φ`
    into its `Ψ`. -/
theorem runs_forChunks (c : Dev nD) (step : Fin 8 → Body PUnit) (I : List (Fin 8) → sProp 𝕄) (Φ Ψ : Fin 8 → sProp 𝕄)
    (h : ∀ k ks (Q : PUnit → sProp 𝕄), iprop(Φ k ∗ I (k :: ks) ∗ ((Ψ k ∗ I ks) -∗ Q ⟨⟩)) ⊢ runs c (step k) Q) :
    ∀ (ks : List (Fin 8)) (Q : PUnit → sProp 𝕄),
      iprop(bigSepL ks Φ ∗ I ks ∗ ((bigSepL ks Ψ ∗ I []) -∗ Q ⟨⟩)) ⊢ runs c (forChunks step ks) Q := by
  intro ks
  induction ks with
  | nil =>
    intro Q
    rw [forChunks, bigSepL_nil, bigSepL_nil, Prog.pure_eq_ret, runs, wp_ret]
    iintro ⟨H, HI, HQ⟩
    imodintro
    iapply HQ
    isplitl [H] <;> iassumption
  | cons k ks ih =>
    intro Q
    rw [forChunks, bigSepL_cons', bigSepL_cons', runs, wp_bind]
    iintro ⟨⟨Hk, Hks⟩, HI, HQ⟩
    iapply (h k ks)
    isplitl [Hk]; · iexact Hk
    isplitl [HI]; · iexact HI
    iintro ⟨Hk, HI⟩
    iapply (ih Q)
    isplitl [Hks]; · iexact Hks
    isplitl [HI]; · iexact HI
    iintro ⟨Hks, HI⟩
    iapply HQ
    isplitl [Hk Hks]
    · isplitl [Hk] <;> iassumption
    iexact HI

/-! ## The partial product -/

/-- Device `c` owns its block of `O` and its block of `Wo`. -/
def inputs (c : Dev nD) : sProp 𝕄 :=
  iprop((((c : Thread nD τ).loc cc0_stg0_0) ↦{fullShare} oIn m ρ c) ∗ (((c : Thread nD τ).loc cc0_stg1_0) ↦{fullShare} wIn m ρ c))

theorem runs_partial (c : Dev nD) {x : BitVec 32} (hx : IsX x) (k : Fin 8) : ∀ (n : Nat) (hn : n ≤ 8) (Q : FVec F S128x1024 .f32 → sProp 𝕄),
    iprop(inputs m ρ c ∗ (inputs m ρ c -∗ Q (partialVal (oIn m ρ c) (wIn m ρ c) hx k n hn))) ⊢ runs c (partialProg hx k n hn) Q := by
  intro n
  induction n with
  | zero =>
    intro hn Q
    rw [partialProg, partialVal, Prog.pure_eq_ret, runs, wp_ret]
    iintro ⟨H, HQ⟩
    imodintro
    iapply HQ; iexact H
  | succ n ih =>
    intro hn Q
    rw [partialProg, partialVal, runs, wp_bind]
    iintro ⟨H, HQ⟩
    iapply (ih (Nat.le_of_succ_le hn))
    isplitl [H]; · iexact H
    iintro H
    simp only [Prog.lift, Prog.bind_op, Prog.bind_ret, Prog.pure_eq_ret]
    unfold inputs
    icases H with ⟨Ho, Hw⟩
    iapply (wp_load Variants.none (c : Thread nD τ) none Set.univ (m := oM) (Finset.subset_univ _)) $$ Ho; iintro Ho
    iapply (wp_load Variants.none (c : Thread nD τ) none Set.univ (m := wM) (Finset.subset_univ _)) $$ Hw; iintro Hw
    rw [wp_ret]
    imodintro
    iapply HQ
    isplitl [Ho] <;> iassumption

/-! ## The send -/

/-- The state of the sending loop before the chunks `ks`. -/
def sending (K : Dev nD × Slot → ℕ) (c : Dev nD) (ks : List (Fin 8)) : sProp 𝕄 :=
  iprop(records m ρ K ∗ inputs m ρ c ∗ ∃ W, owes (c : Thread nD τ) (owe c ks) W)

/-- What sending chunk `k` takes. -/
def beforeSend (c : Dev nD) (k : Fin 8) : sProp 𝕄 :=
  iprop(sndAny (F := F) c k ∗ rcvAny (F := F) (peer c) k ∗ dutyTok EX (cell (c, .snd k)) 0 () ∗ dutyTok EX (cell (peer c, .rcv k)) 0 ())

/-- Elements held through a memref are owned at what it reads. -/
theorem owns_of_read {sp : Space} {sh : Shape} {e : EltTy} (c : Dev nD) (M : Memref sig .tc sp sh e) (f : M.view.ty.Contents (Elt F))
    (X : sh.Idx → Elt F e) (h : M.view.read (Elt F) f = X) :
    (M.view.loc (c : Thread nD τ) ↦[M.view.set]{fullShare} f) ⊢ (owns (c : Thread nD τ) M fullShare X : sProp 𝕄) := by
  unfold owns
  iintro H
  iexists f
  isplitr
  · ipureintro; exact h
  iexact H

/-- A chunk held as a matrix is the chunk held. -/
theorem held_sndV (c : Dev nD) (k : Fin 8) (f : (sndM.slice (chunk k) (fun _ => rfl)).view.ty.Contents (Elt F)) :
    ((sndV k).view.loc (c : Thread nD τ) ↦[(sndV k).view.set]{fullShare} f : sProp 𝕄)
      = ((sndM.slice (chunk k) (fun _ => rfl)).view.loc (c : Thread nD τ) ↦[(sndM.slice (chunk k) (fun _ => rfl)).view.set]{fullShare} f) :=
  congrArg (fun S => ((sndM.slice (chunk k) (fun _ => rfl)).view.loc (c : Thread nD τ) ↦[S]{fullShare} f : sProp 𝕄)) (View.set_reshape _ _)
theorem held_rcvV (c : Dev nD) (k : Fin 8) (f : (rcvM.slice (chunk k) (fun _ => rfl)).view.ty.Contents (Elt F)) :
    ((rcvV k).view.loc (c : Thread nD τ) ↦[(rcvV k).view.set]{fullShare} f : sProp 𝕄)
      = ((rcvM.slice (chunk k) (fun _ => rfl)).view.loc (c : Thread nD τ) ↦[(rcvM.slice (chunk k) (fun _ => rfl)).view.set]{fullShare} f) :=
  congrArg (fun S => ((rcvM.slice (chunk k) (fun _ => rfl)).view.loc (c : Thread nD τ) ↦[S]{fullShare} f : sProp 𝕄)) (View.set_reshape _ _)

/-- What a view holds after a copy, made through re-indexings of it and of the source. -/
theorem read_copied {sp sp' : Space} {s s' : Shape} {e : EltTy} (v : View sig .tc sp s e) (u : View sig .tc sp' s e)
    (h : s'.numel = s.numel) (fd : v.ty.Contents (Elt F)) (fs : u.ty.Contents (Elt F)) :
    v.read (Elt F) ((v.reshape s' h).write (Elt F) fd ((u.reshape s' h).read (Elt F) fs) Finset.univ) = u.read (Elt F) fs := by
  funext x
  obtain ⟨y, rfl⟩ := (Shape.reshapeEquiv h).surjective x
  rw [View.read_write_reshape]
  rfl

/-- A send chunk with whatever contents is what the send semaphore hands back. -/
theorem hand_snd (c : Dev nD) (k : Fin 8) (f : (sndM.slice (chunk k) (fun _ => rfl)).view.ty.Contents (Elt F)) :
    ((sndV k).view.loc (c : Thread nD τ) ↦[(sndV k).view.set]{fullShare} f) ⊢ (plan m ρ).payload (cell (c, .snd k)) 0 () := by
  rw [held_sndV, plan_payload]
  unfold handed sndAny sndAt
  iintro H
  iexists ((sndM.slice (chunk k) (fun _ => rfl)).view.read (Elt F) f)
  iapply (owns_of_read c (sndM.slice (chunk k) (fun _ => rfl)) f _ rfl)
  iexact H

/-- The copy of a send chunk holding `sent c k` is what the peer's receive semaphore hands over. -/
theorem hand_rcv (c : Dev nD) (k : Fin 8) (fs : (sndM.slice (chunk k) (fun _ => rfl)).view.ty.Contents (Elt F))
    (fd : (rcvM.slice (chunk k) (fun _ => rfl)).view.ty.Contents (Elt F))
    (hs : (sndM.slice (chunk k) (fun _ => rfl)).view.read (Elt F) fs = sent m ρ c k) :
    ((rcvV k).view.loc (peer c : Thread nD τ) ↦[(rcvV k).view.set]{fullShare}
        ((rcvV k).view.write (Elt F) fd ((sndV k).view.read (Elt F) fs) Finset.univ))
      ⊢ (plan m ρ).payload (cell (peer c, .rcv k)) 0 () := by
  rw [plan_payload]
  refine (Entails.of_eq (held_rcvV (peer c) k _)).trans ?_
  show _ ⊢ rcvAt (peer c) k (sent m ρ (peer (peer c)) k)
  rw [peer_peer, ← hs]
  unfold rcvAt
  exact owns_of_read (peer c) (rcvM.slice (chunk k) (fun _ => rfl)) _ _ (read_copied _ _ _ fd fs)

/-- A chunk just stored holds what was stored. -/
theorem read_stored (k : Fin 8) (f : (sndM.slice (chunk k) (fun _ => rfl)).view.ty.Contents (Elt F)) (X : Vec F S1x128x1024 .bf16) :
    (sndM.slice (chunk k) (fun _ => rfl)).view.read (Elt F) ((sndM.access (chunk k)).write (Elt F) f X Finset.univ) = X :=
  View.read_write_univ _ _
theorem read_stored_res (k : Fin 8) (f : (rM.slice (piece k) (fun _ => rfl)).view.ty.Contents (Elt F)) (X : Vec F S1x128x1024 .f32) :
    (rM.slice (piece k) (fun _ => rfl)).view.read (Elt F) ((rM.access (piece k)).write (Elt F) f X Finset.univ) = X :=
  View.read_write_univ _ _

set_option maxHeartbeats 1000000 in
theorem runs_send (K : Dev nD × Slot → ℕ) (c p : Dev nD) (hp : p = peer c) (k : Fin 8) (ks : List (Fin 8)) (Q : PUnit → sProp 𝕄) :
    iprop(beforeSend (F := F) c k ∗ sending m ρ K c (k :: ks)
        ∗ ((cred (tallyAt (cell (c, .snd k)) () N) ∗ sending m ρ K c ks) -∗ Q ⟨⟩))
      ⊢ runs c (sendChunk c p k) Q := by
  subst hp
  rw [sendChunk, runs, wp_bind]
  unfold beforeSend sending sndAny rcvAny sndAt rcvAt owns
  iintro ⟨⟨⟨%X, %f, -, Hs⟩, ⟨%Y, %g, -, Hr⟩, Hts, Htr⟩, ⟨#HK, Hin, %W, HO⟩, HQ⟩
  iapply (runs_partial m ρ c (isX_peer c) k 8 le_rfl)
  isplitl [Hin]; · iexact Hin
  iintro Hin
  simp only [Prog.lift, Prog.bind_op, Prog.bind_ret, Prog.pure_eq_ret]
  iapply (wp_load_rect Variants.none (c : Thread nD τ) none Set.univ (m := sndM) (r := chunk k) Finset.Subset.rfl) $$ Hs; iintro Hs
  iapply (wp_store Variants.none (c : Thread nD τ) none Set.univ (m := sndM) (r := chunk k) (Mk := Finset.univ)
    (by rw [View.setOn_univ])) $$ Hs
  iintro Hs
  iapply (Rounds.wp_send_pointsTo Variants.none EX (plan m ρ) (c : Thread nD τ) none (κ₁ := K (c, .snd k)) (κ₂ := K (peer c, .rcv k))
    (src := sndV k) (dst := rcvV k) (c' := (peer c : Thread nD τ)) (r₁ := 0) (r₂ := 0) (d₁ := ()) (d₂ := ()) (q := fullShare)
    (by rw [plan_duties]; exact Finset.mem_singleton_self _) (by rw [plan_duties]; exact Finset.mem_singleton_self _)
    () () N rfl (plan_amount m ρ c (.snd k) ()) (plan_amount m ρ (peer c) (.rcv k) ()) (owe c ks) rfl (W := W)
    (fs := (sndM.access (chunk k)).write (Elt F) f (sent m ρ c k) Finset.univ) (fd := g)
    (hand_snd m ρ c k _) (hand_rcv m ρ c k _ g (read_stored k f _))) $$ [Hs Hr HO Hts Htr]
  · isplitr; · iapply (records_inv m ρ K (c, .snd k)); iexact HK
    isplitr; · iapply (records_inv m ρ K (peer c, .rcv k)); iexact HK
    isplitl [Hs]; · iapply (Entails.of_eq (held_sndV c k _).symm); iexact Hs
    isplitl [Hr]; · iapply (Entails.of_eq (held_rcvV (peer c) k g).symm); iexact Hr
    isplitl [HO]; · iexact HO
    isplitl [Hts]; · iexact Hts
    isplitr; · iapply (records_reached m ρ K (c, .snd k)); iexact HK
    isplitl [Htr]; · iexact Htr
    iapply (records_reached m ρ K (peer c, .rcv k)); iexact HK
  iintro ⟨Hc, HO⟩
  rw [wp_ret]
  imodintro
  iapply HQ
  isplitl [Hc]; · iexact Hc
  isplitr; · iexact HK
  isplitl [Hin]; · iexact Hin
  iexists W; iexact HO

/-! ## The receive -/

/-- The state of the receiving loop and of the draining loop. -/
def receiving (K : Dev nD × Slot → ℕ) (c : Dev nD) (_ : List (Fin 8)) : sProp 𝕄 :=
  iprop(records m ρ K ∗ inputs m ρ c ∗ ∃ W, owes (c : Thread nD τ) (0 : CellTallies nD τ sig Unit) W)

/-- What receiving chunk `k` takes, and what it leaves. -/
def beforeRecv (c : Dev nD) (k : Fin 8) : sProp 𝕄 :=
  iprop(atPos EX (cell (c, .rcv k)) 0 ∅ 0 ∗ cred (tallyAt (cell (c, .rcv k)) () N) ∗ resAny (F := F) c k)
def afterRecv (c : Dev nD) (k : Fin 8) : sProp 𝕄 :=
  iprop(rcvAny (F := F) c k ∗ resAt c k (outChunk m ρ c k) ∗ semVal (cell (c, .rcv k)) 0)

set_option maxHeartbeats 1000000 in
theorem runs_recv (K : Dev nD × Slot → ℕ) (c : Dev nD) (k : Fin 8) (ks : List (Fin 8)) (Q : PUnit → sProp 𝕄) :
    iprop(beforeRecv (F := F) c k ∗ receiving m ρ K c (k :: ks) ∗ ((afterRecv m ρ c k ∗ receiving m ρ K c ks) -∗ Q ⟨⟩))
      ⊢ runs c (recvChunk c k) Q := by
  rw [recvChunk, runs, wp_bind]
  unfold beforeRecv receiving resAny resAt owns
  iintro ⟨⟨Hat, Hc, %X, %f, -, Hres⟩, ⟨#HK, Hin, %W, HO⟩, HQ⟩
  iapply (runs_partial m ρ c (isX_own c) k 8 le_rfl)
  isplitl [Hin]; · iexact Hin
  iintro Hin
  simp only [Prog.lift, Prog.bind_op, Prog.bind_ret, Prog.pure_eq_ret]
  iapply (Rounds.wp_wait_rest_token Variants.none EX (plan m ρ) (c : Thread nD τ) none (κ := K (c, .rcv k)) (sm := slotSem (.rcv k))
      (wpE_waitDma2_eq Variants.none (c : Thread nD τ) none Set.univ) (Set.mem_univ _) () (O := 0) (W := W) (R := 0) (m := 0) (T := ∅)
      (by rw [Nat.zero_add, plan_expect]; rfl)) $$ [Hc HO Hat]
  · isplitr; · iapply (records_inv m ρ K (c, .rcv k)); iexact HK
    isplitl [Hc]; · iexact Hc
    isplitl [HO]; · iexact HO
    isplitr; · rw [MayWait_zero]; iempintro
    iexact Hat
  iintro ⟨HO, Hat, -, Hpay⟩
  ihave Hr := (Entails.of_eq (plan_rest m ρ c (.rcv k))) $$ Hpay
  imod (Rounds.cell_close EX (plan m ρ) (Set.mem_univ (K (c, .rcv k))) (fun h => h) (R := 0 + 1) (plan_later m ρ _)) $$ [Hat] with Hz
  · isplitr; · iapply (records_inv m ρ K (c, .rcv k)); iexact HK
    iexact Hat
  unfold handed rcvAt owns
  icases Hr with ⟨%g, %hg, Hr⟩
  iapply (wp_load_rect Variants.none (c : Thread nD τ) none Set.univ (m := rcvM) (r := chunk k) Finset.Subset.rfl) $$ Hr; iintro Hr
  iapply (wp_load_rect Variants.none (c : Thread nD τ) none Set.univ (m := rM) (r := piece k) Finset.Subset.rfl) $$ Hres; iintro Hres
  iapply (wp_store Variants.none (c : Thread nD τ) none Set.univ (m := rM) (r := piece k) (Mk := Finset.univ)
    (by rw [View.setOn_univ])) $$ Hres
  iintro Hres
  rw [wp_ret]
  imodintro
  iapply HQ
  isplitr [Hin HO]
  · unfold afterRecv rcvAny rcvAt resAt
    isplitl [Hr]
    · iexists (sent m ρ (peer c) k)
      iapply (owns_of_read c (rcvM.slice (chunk k) (fun _ => rfl)) g _ hg); iexact Hr
    isplitl [Hres]
    · iapply (owns_of_read c (rM.slice (piece k) (fun _ => rfl)) _ _
        ((read_stored_res k f _).trans (congrArg (summed _) hg)))
      iexact Hres
    iexact Hz
  isplitr; · iexact HK
  isplitl [Hin]; · iexact Hin
  iexists _; iexact HO

/-! ## The drain -/

/-- What the wait for chunk `k` to have left takes, and what it leaves. -/
def beforeDrain (c : Dev nD) (k : Fin 8) : sProp 𝕄 :=
  iprop(atPos EX (cell (c, .snd k)) 0 ∅ 0 ∗ cred (tallyAt (cell (c, .snd k)) () N))
def afterDrain (c : Dev nD) (k : Fin 8) : sProp 𝕄 :=
  iprop(sndAny (F := F) c k ∗ semVal (cell (c, .snd k)) 0)

theorem runs_drain (K : Dev nD × Slot → ℕ) (c : Dev nD) (k : Fin 8) (ks : List (Fin 8)) (Q : PUnit → sProp 𝕄) :
    iprop(beforeDrain (F := F) c k ∗ receiving m ρ K c (k :: ks) ∗ ((afterDrain (F := F) c k ∗ receiving m ρ K c ks) -∗ Q ⟨⟩))
      ⊢ runs c (drainChunk k) Q := by
  unfold beforeDrain receiving runs drainChunk
  iintro ⟨⟨Hat, Hc⟩, ⟨#HK, Hin, %W, HO⟩, HQ⟩
  simp only [Prog.lift]
  iapply (Rounds.wp_wait_rest_token Variants.none EX (plan m ρ) (c : Thread nD τ) none (κ := K (c, .snd k)) (sm := slotSem (.snd k))
      (wpE_waitDma2_eq Variants.none (c : Thread nD τ) none Set.univ) (Set.mem_univ _) () (O := 0) (W := W) (R := 0) (m := 0) (T := ∅)
      (by rw [Nat.zero_add, plan_expect]; rfl)) $$ [Hc HO Hat]
  · isplitr; · iapply (records_inv m ρ K (c, .snd k)); iexact HK
    isplitl [Hc]; · iexact Hc
    isplitl [HO]; · iexact HO
    isplitr; · rw [MayWait_zero]; iempintro
    iexact Hat
  iintro ⟨HO, Hat, -, Hpay⟩
  ihave Hs := (show _ ⊢ sndAny (F := F) c k from Entails.of_eq (plan_rest m ρ c (.snd k))) $$ Hpay
  imod (Rounds.cell_close EX (plan m ρ) (Set.mem_univ (K (c, .snd k))) (fun h => h) (R := 0 + 1) (plan_later m ρ _)) $$ [Hat] with Hz
  · isplitr; · iapply (records_inv m ρ K (c, .snd k)); iexact HK
    iexact Hat
  rw [wp_ret]
  imodintro
  iapply HQ
  isplitl [Hs Hz]
  · unfold afterDrain
    isplitl [Hs]
    · iexact Hs
    iexact Hz
  isplitr; · iexact HK
  isplitl [Hin]; · iexact Hin
  iexists _; iexact HO

end Cert.OutProj

end
-- ==== Proof.Pieces.lean ====
/-
The buffers cut in chunks and put together again, and the result's contents.
-/
module

public import proofs.«01_k».proof.Proof.Steps
public import Idealize.ShloMosaic.Lib.Memref
public import Idealize.ShloMosaic.Lib.Ring

@[expose] public section

noncomputable section

namespace Cert.OutProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The chunks cover their buffers, each element once -/

theorem mem_chunk {k : Fin 8} {i : S8x128x1024.Idx} : i ∈ (chunk k).set ↔ (i 0).val = k.val := by
  have h1 : (i 1).val < 128 := (i 1).isLt
  have h2 : (i 2).val < 1024 := (i 2).isLt
  refine Rect.mem_set_unit.trans ⟨fun h => ?_, fun h a => ?_⟩
  · have h0 : k.val ≤ (i 0).val ∧ (i 0).val < k.val + 1 := h 0
    omega
  · fin_cases a
    · show k.val ≤ (i 0).val ∧ (i 0).val < k.val + 1; omega
    · show 0 ≤ (i 1).val ∧ (i 1).val < 0 + 128; omega
    · show 0 ≤ (i 2).val ∧ (i 2).val < 0 + 1024; omega

theorem mem_piece {k : Fin 8} {i : S4x256x1024.Idx} :
    i ∈ (piece k).set ↔ (i 0).val = k.val / 2 ∧ (i 1).val / 128 = k.val % 2 := by
  have h1 : (i 1).val < 256 := (i 1).isLt
  have h2 : (i 2).val < 1024 := (i 2).isLt
  have hk := k.isLt
  refine Rect.mem_set_unit.trans ⟨fun h => ?_, fun h a => ?_⟩
  · have h0 : k.val / 2 ≤ (i 0).val ∧ (i 0).val < k.val / 2 + 1 := h 0
    have h1 : k.val % 2 * 128 ≤ (i 1).val ∧ (i 1).val < k.val % 2 * 128 + 128 := h 1
    omega
  · fin_cases a
    · show k.val / 2 ≤ (i 0).val ∧ (i 0).val < k.val / 2 + 1; omega
    · show k.val % 2 * 128 ≤ (i 1).val ∧ (i 1).val < k.val % 2 * 128 + 128; omega
    · show 0 ≤ (i 2).val ∧ (i 2).val < 0 + 1024; omega

theorem chunk_disjoint (k k' : Fin 8) (h : k ≠ k') : Disjoint (chunk k).set (chunk k').set :=
  Finset.disjoint_left.mpr fun i hi hi' => h (Fin.ext ((mem_chunk.mp hi).symm.trans (mem_chunk.mp hi')))
theorem chunk_cover : (Finset.univ : Finset (Fin 8)).biUnion (fun k => (chunk k).set) = Finset.univ := by
  ext i
  simp only [Finset.mem_biUnion, Finset.mem_univ, true_and, iff_true]
  exact ⟨i 0, mem_chunk.mpr rfl⟩

theorem piece_disjoint (k k' : Fin 8) (h : k ≠ k') : Disjoint (piece k).set (piece k').set :=
  Finset.disjoint_left.mpr fun i hi hi' => h (Fin.ext (by
    have h1 := mem_piece.mp hi
    have h2 := mem_piece.mp hi'
    omega))
theorem piece_exists (i : S4x256x1024.Idx) : ∃ k : Fin 8, i ∈ (piece k).set := by
  have h0 : (i 0).val < 4 := (i 0).isLt
  have h1 : (i 1).val < 256 := (i 1).isLt
  exact ⟨⟨(i 0).val * 2 + (i 1).val / 128, by omega⟩, mem_piece.mpr ⟨by simp only; omega, by simp only; omega⟩⟩
theorem piece_cover : (Finset.univ : Finset (Fin 8)).biUnion (fun k => (piece k).set) = Finset.univ := by
  ext i
  simp only [Finset.mem_biUnion, Finset.mem_univ, true_and, iff_true]
  exact piece_exists i

/-! ## The result -/

/-- Chunk `k`'s index `j` as an index of the result. -/
abbrev resIdx (x : Fin 8 × S1x128x1024.Idx) : S4x256x1024.Idx := (piece x.1).emb x.2

theorem resIdx_mem (x : Fin 8 × S1x128x1024.Idx) : resIdx x ∈ (piece x.1).set := by
  rw [← Rect.map_emb_univ]; exact Finset.mem_map_of_mem _ (Finset.mem_univ _)
theorem resIdx_injective : Function.Injective resIdx := by
  rintro ⟨k, j⟩ ⟨k', j'⟩ h
  have hk : k = k' := by
    by_contra hn
    exact Finset.disjoint_left.mp (piece_disjoint k k' hn) (resIdx_mem (k, j)) (h ▸ resIdx_mem (k', j'))
  subst hk
  have hj : j = j' := (piece k).emb.injective h
  rw [hj]
theorem resIdx_surjective : Function.Surjective resIdx := fun i => by
  obtain ⟨k, hk⟩ := piece_exists i
  rw [← Rect.map_emb_univ, Finset.mem_map] at hk
  obtain ⟨j, -, hj⟩ := hk
  exact ⟨(k, j), hj⟩

/-- What device `c`'s block of the result holds after the run. -/
def outAt (c : Dev nD) : (cc0_stg2_0 : Ref sig .tc).ty.Contents (Elt F) := fun i =>
  outChunk m ρ c (Function.surjInv resIdx_surjective i).1 (Function.surjInv resIdx_surjective i).2

theorem outAt_resIdx (c : Dev nD) (k : Fin 8) (j : S1x128x1024.Idx) : outAt m ρ c (resIdx (k, j)) = outChunk m ρ c k j := by
  unfold outAt
  rw [resIdx_injective (Function.surjInv_eq resIdx_surjective (resIdx (k, j)))]

/-! ## Cutting and joining -/

section Cut

variable (c : Dev nD) (b : Ref sig .tc) (r : Fin 8 → Rect b.ty.shape) (hr : ∀ t a, (r t).stride a = 1)
  (hd : ∀ t t', t ≠ t' → Disjoint (r t).set (r t').set)
  (hcov : (Finset.univ : Finset (Fin 8)).biUnion (fun t => (r t).set) = Finset.univ)
include hd hcov

/-- A buffer held whole is owned chunk by chunk, at some contents; -/
theorem cut_any (f : b.ty.Contents (Elt F)) :
    (((c : Thread nD τ).loc b) ↦{fullShare} f : sProp 𝕄)
      ⊢ bigSep Finset.univ fun k => iprop(∃ X, owns (c : Thread nD τ) ((Memref.whole b).slice (r k) (hr k)) fullShare X) := by
  have h : (((c : Thread nD τ).loc b) ↦[(View.whole b).set]{fullShare} f : sProp 𝕄) = _ :=
    pointsTo_rects (Ix := Unit) (Name := ℕ) (U := UU) (Lvl := ℕ) (c : Thread nD τ) (Memref.whole b) fullShare r hr hd hcov f
  rw [View.set_whole] at h
  have hk (k : Fin 8) (X : (r k).shape.Idx → Elt F b.ty.elt) : (owns (c : Thread nD τ) ((Memref.whole b).slice (r k) (hr k)) fullShare X : sProp 𝕄)
      ⊢ iprop(∃ X, owns (c : Thread nD τ) ((Memref.whole b).slice (r k) (hr k)) fullShare X) := by
    iintro H
    iexists X
    iexact H
  exact (Entails.of_eq h).trans (bigSep_mono fun k _ => hk k _)

/-- chunks owned at some contents join to the buffer held whole at some; -/
theorem join_any :
    (bigSep Finset.univ fun k => iprop(∃ X, owns (c : Thread nD τ) ((Memref.whole b).slice (r k) (hr k)) fullShare X) : sProp 𝕄)
      ⊢ iprop(∃ f, ((c : Thread nD τ).loc b) ↦{fullShare} f) := by
  have hset (k : Fin 8) : ((View.whole b).slice (r k)).set = (r k).set := by
    rw [View.set_slice]
    exact Finset.map_refl
  have hk (k : Fin 8) : iprop(∃ X, owns (c : Thread nD τ) ((Memref.whole b).slice (r k) (hr k)) fullShare X)
      ⊢ (iprop(∃ f, ((c : Thread nD τ).loc b) ↦[(r k).set]{fullShare} f) : sProp 𝕄) := by
    rw [← hset k]
    unfold owns
    iintro ⟨%X, %f, -, H⟩
    iexists f
    iexact H
  exact (show _ ⊢ _ from bigSep_mono fun k _ => hk k).trans
    (Ring.pointsTo_blocks_join_exists (ℓ := (c : Thread nD τ).loc b) (fun k => (r k).set) hd hcov (fun _ => Classical.arbitrary _))

/-- and chunks owned at the parts of `X` to the buffer held whole at `X`. -/
theorem join_at (X : b.ty.Contents (Elt F)) :
    (bigSep Finset.univ fun k => owns (c : Thread nD τ) ((Memref.whole b).slice (r k) (hr k)) fullShare (fun j => X ((r k).emb j)) : sProp 𝕄)
      ⊢ (((c : Thread nD τ).loc b) ↦{fullShare} X) := by
  refine (owns_of_rects (Ix := Unit) (Name := ℕ) (U := UU) (Lvl := ℕ) (c : Thread nD τ) (Memref.whole b) fullShare r hr hd hcov X).trans ?_
  show iprop(∃ f, ⌜(View.whole b).read (Elt F) f = X⌝ ∗ (((c : Thread nD τ).loc b) ↦[(View.whole b).set]{fullShare} f)) ⊢ _
  rw [View.set_whole]
  iintro ⟨%f, %hf, H⟩
  rw [View.read_whole] at hf
  rw [hf]
  iexact H

end Cut

theorem cut_snd (c : Dev nD) (f : Buf (Elt F) ((c : Thread nD τ).loc cc0_scratch0)) :
    (((c : Thread nD τ).loc cc0_scratch0) ↦{fullShare} f : sProp 𝕄) ⊢ bigSep Finset.univ fun k => sndAny (F := F) c k :=
  cut_any c cc0_scratch0 chunk (fun _ _ => rfl) chunk_disjoint chunk_cover f
theorem cut_rcv (c : Dev nD) (f : Buf (Elt F) ((c : Thread nD τ).loc cc0_scratch1)) :
    (((c : Thread nD τ).loc cc0_scratch1) ↦{fullShare} f : sProp 𝕄) ⊢ bigSep Finset.univ fun k => rcvAny (F := F) c k :=
  cut_any c cc0_scratch1 chunk (fun _ _ => rfl) chunk_disjoint chunk_cover f
theorem cut_res (c : Dev nD) (f : Buf (Elt F) ((c : Thread nD τ).loc cc0_stg2_0)) :
    (((c : Thread nD τ).loc cc0_stg2_0) ↦{fullShare} f : sProp 𝕄) ⊢ bigSep Finset.univ fun k => resAny (F := F) c k :=
  cut_any c cc0_stg2_0 piece (fun _ _ => rfl) piece_disjoint piece_cover f

theorem join_snd (c : Dev nD) :
    (bigSep Finset.univ fun k => sndAny (F := F) c k : sProp 𝕄) ⊢ iprop(∃ f, ((c : Thread nD τ).loc cc0_scratch0) ↦{fullShare} f) :=
  join_any c cc0_scratch0 chunk (fun _ _ => rfl) chunk_disjoint chunk_cover
theorem join_rcv (c : Dev nD) :
    (bigSep Finset.univ fun k => rcvAny (F := F) c k : sProp 𝕄) ⊢ iprop(∃ f, ((c : Thread nD τ).loc cc0_scratch1) ↦{fullShare} f) :=
  join_any c cc0_scratch1 chunk (fun _ _ => rfl) chunk_disjoint chunk_cover
theorem join_res (c : Dev nD) :
    (bigSep Finset.univ fun k => resAt c k (outChunk m ρ c k) : sProp 𝕄) ⊢ (((c : Thread nD τ).loc cc0_stg2_0) ↦{fullShare} outAt m ρ c) := by
  have h (k : Fin 8) : outChunk m ρ c k = fun j => outAt m ρ c ((piece k).emb j) := funext fun j => (outAt_resIdx m ρ c k j).symm
  simp only [resAt, h]
  exact join_at c cc0_stg2_0 piece (fun _ _ => rfl) piece_disjoint piece_cover (outAt m ρ c)

end Cert.OutProj

end
-- ==== Proof.Body.lean ====
/-
The body of the kernel on a device: from what the launch gives it to its block of the result.
-/
module

public import proofs.«01_k».proof.Proof.Pieces

@[expose] public section

noncomputable section

namespace Cert.OutProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The device whose semaphore a device pays: of its own send semaphores itself, of the others its peer. -/
def paid : Dev nD × Slot → Dev nD × Slot
  | (c, .inr (.inl k)) => (c, .inr (.inl k))
  | (c, s) => (peer c, s)

theorem paid_paid (x : Dev nD × Slot) : paid (paid x) = x := by
  obtain ⟨c, _ | k | k⟩ := x
  · exact congrArg (·, _) (peer_peer c)
  · rfl
  · exact congrArg (·, _) (peer_peer c)

/-- Device `c`'s part of the protocol's state: its place at each of its semaphores, and the right to pay each duty it pays. -/
def places (c : Dev nD) : sProp 𝕄 := bigSep Finset.univ fun s : Slot => atPos EX (cell (c, s)) 0 ∅ 0
def rights (c : Dev nD) : sProp 𝕄 := bigSep Finset.univ fun s : Slot => dutyTok EX (cell (paid (c, s))) 0 ()

/-- The credit device `c` waits on at its barrier and at its receive semaphores. -/
def credits (c : Dev nD) : sProp 𝕄 :=
  iprop(cred (tallyAt (cell (c, .bar)) () 1) ∗ bigSep Finset.univ fun k => cred (tallyAt (cell (c, .rcv k)) () N))

/-- What the launch gives device `c` beside its buffers. -/
def start (c : Dev nD) : sProp 𝕄 :=
  iprop((∃ K, records m ρ K ∗ places (F := F) c ∗ rights (F := F) c) ∗ credits (F := F) c ∗ levAts levSet lev)

/-- The two buffers of the kernel's own, with some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Device `c`'s semaphores, all at zero. -/
def zeros (c : Dev nD) : sProp 𝕄 := bigSep Finset.univ fun s : Slot => semVal (cell (c, s)) 0

/-- A conjunction over a device's semaphores: the barrier's, the send semaphores' and the receive semaphores'. -/
theorem bigSep_slot (Φ : Slot → sProp 𝕄) :
    bigSep Finset.univ Φ = iprop(Φ .bar ∗ (bigSep Finset.univ fun k => Φ (.snd k)) ∗ bigSep Finset.univ fun k => Φ (.rcv k)) := by
  rw [bigSep_univ_sum, bigSep_univ_sum, bigSep_univ_of_subsingleton ()]
  rfl

/-- A conjunction over the chunks, in order. -/
theorem bigSep_chunks (Φ : Fin 8 → sProp 𝕄) : bigSep Finset.univ Φ = bigSepL chunks Φ :=
  bigSep_univ_eq_bigSepL chunks (by decide) (by decide) Φ

/-- What the receives and the drains leave, kind by kind. -/
theorem received (c : Dev nD) :
    bigSepL chunks (fun k => afterRecv m ρ c k) ⊢ iprop((bigSep Finset.univ fun k => rcvAny (F := F) c k)
      ∗ (bigSep Finset.univ fun k => resAt c k (outChunk m ρ c k)) ∗ bigSep Finset.univ fun k => semVal (cell (c, .rcv k)) 0) := by
  rw [← bigSep_chunks]
  unfold afterRecv
  rw [bigSep_sep', bigSep_sep']
theorem drained (c : Dev nD) :
    bigSepL chunks (fun k => afterDrain (F := F) c k)
      ⊢ iprop((bigSep Finset.univ fun k => sndAny (F := F) c k) ∗ bigSep Finset.univ fun k => semVal (cell (c, .snd k)) 0) := by
  rw [← bigSep_chunks]
  unfold afterDrain
  rw [bigSep_sep']

/-- A receive buffer is what the peer's barrier hands over. -/
theorem hand_bar (c : Dev nD) :
    (bigSep Finset.univ fun k => rcvAny (F := F) c k) ⊢ (plan m ρ).payload ((peer c : Thread nD τ), .reg barSem) 0 () := by
  show _ ⊢ (plan m ρ).payload (cell (peer c, .bar)) 0 ()
  rw [plan_payload]
  show _ ⊢ bigSep Finset.univ fun k => rcvAny (F := F) (peer (peer c)) k
  rw [peer_peer]

/-- What the body starts from, and what it leaves. -/
def bodyPre (c : Dev nD) : sProp 𝕄 :=
  iprop(start m ρ c ∗ scratch (F := F) c ∗ inputs m ρ c ∗ (∃ f : Buf (Elt F) ((c : Thread nD τ).loc cc0_stg2_0), ((c : Thread nD τ).loc cc0_stg2_0) ↦{fullShare} f) ∗ ∃ W, owes (c : Thread nD τ) (owed₀ c) W)
def bodyPost (c : Dev nD) : sProp 𝕄 :=
  iprop(scratch (F := F) c ∗ zeros (F := F) c ∗ inputs m ρ c ∗ (((c : Thread nD τ).loc cc0_stg2_0) ↦{fullShare} outAt m ρ c)
    ∗ ∃ W, owes (c : Thread nD τ) (0 : CellTallies nD τ sig Unit) W)

set_option maxHeartbeats 1000000 in
theorem runs_program (c : Dev nD) (Q : PUnit → sProp 𝕄) :
    iprop(bodyPre m ρ c ∗ (bodyPost m ρ c -∗ Q ⟨⟩)) ⊢ runs c (program (F := F)) Q := by
  rw [program, runs]
  simp only [semSignalWord, semWaitWord, Prog.lift, Prog.bind_op, Prog.bind_ret, wp_deviceId]
  unfold bodyPre start scratch places rights credits
  rw [bigSep_slot, bigSep_slot]
  iintro ⟨⟨⟨⟨%K, #HK, ⟨HaB, HaS, HaR⟩, HtB, HtS, HtR⟩, ⟨HcB, HcR⟩, #Hlev⟩, ⟨⟨%f0, Hsnd⟩, %f1, Hrcv⟩, Hin, ⟨%f2, Hres⟩, %W, HO⟩, HQ⟩
  ihave Hsnd := (cut_snd c f0) $$ Hsnd
  ihave Hrcv := (cut_rcv c f1) $$ Hrcv
  ihave Hres := (cut_res c f2) $$ Hres
  simp only [target_eq c]
  -- the peer's barrier: the receive buffer is handed over
  iapply (Rounds.wp_signal Variants.none EX (plan m ρ) (c : Thread nD τ) none (dst := (peer c : Thread nD τ)) (κ := K (peer c, .bar))
      (d := ()) (show () ∈ (plan m ρ).duties (cell (peer c, .bar)) 0 by rw [plan_duties]; exact Finset.mem_singleton_self _) (plan_amount m ρ (peer c) .bar ()) () (owe c chunks) rfl)
    $$ [HO HtB Hrcv]
  · isplitr; · iapply (records_inv m ρ K (peer c, .bar)); iexact HK
    isplitl [HO]; · iexact HO
    isplitl [HtB]; · iexact HtB
    isplitl [Hrcv]
    · iapply (hand_bar m ρ c); iexact Hrcv
    iapply (records_reached m ρ K (peer c, .bar)); iexact HK
  iintro HO
  -- its own barrier: the peer's receive buffer comes
  iapply (Rounds.wp_wait_rest_token Variants.none EX (plan m ρ) (c : Thread nD τ) none (κ := K (c, .bar)) (sm := slotSem .bar)
      (wpE_semWait_eq Variants.none (c : Thread nD τ) none Set.univ) (Set.mem_univ _) () (O := owe c chunks) (W := W) (R := 0) (m := 0) (T := ∅)
      (by rw [Nat.zero_add, plan_expect]; rfl)) $$ [HcB HO HaB]
  · isplitr; · iapply (records_inv m ρ K (c, .bar)); iexact HK
    isplitl [HcB]; · iexact HcB
    isplitl [HO]; · iexact HO
    isplitr; · iapply (may_wait_bar (F := F) c); iexact Hlev
    iexact HaB
  iintro ⟨HO, HaB, -, Hpay⟩
  ihave Hpeer := (show _ ⊢ bigSep Finset.univ fun k => rcvAny (F := F) (peer c) k from Entails.of_eq (plan_rest m ρ c .bar)) $$ Hpay
  imod (Rounds.cell_close EX (plan m ρ) (Set.mem_univ (K (c, .bar))) (fun h => h) (R := 0 + 1) (plan_later m ρ _)) $$ [HaB] with HzB
  · isplitr; · iapply (records_inv m ρ K (c, .bar)); iexact HK
    iexact HaB
  -- the sends
  rw [wp_bind]
  iapply (runs_forChunks c (sendChunk c (peer c)) (sending m ρ K c) (fun k => beforeSend (F := F) c k)
    (fun k => cred (tallyAt (cell (c, .snd k)) () N)) (fun k ks Q => runs_send m ρ K c (peer c) rfl k ks Q) chunks)
  isplitl [Hsnd Hpeer HtS HtR]
  · rw [← bigSep_chunks]
    unfold beforeSend
    simp only [bigSep_sep']
    isplitl [Hsnd]; · iexact Hsnd
    isplitl [Hpeer]; · iexact Hpeer
    isplitl [HtS]; · iexact HtS
    iexact HtR
  unfold sending
  isplitl [Hin HO]
  · isplitr; · iexact HK
    isplitl [Hin]; · iexact Hin
    iexists _; iexact HO
  iintro ⟨HcS, -, Hin, HO⟩
  -- the receives
  rw [wp_bind]
  iapply (runs_forChunks c (recvChunk c) (receiving m ρ K c) (fun k => beforeRecv (F := F) c k)
    (fun k => afterRecv m ρ c k) (fun k ks Q => runs_recv m ρ K c k ks Q) chunks)
  isplitl [HaR HcR Hres]
  · rw [← bigSep_chunks]
    unfold beforeRecv
    simp only [bigSep_sep']
    isplitl [HaR]; · iexact HaR
    isplitl [HcR]; · iexact HcR
    iexact Hres
  isplitl [Hin HO]
  · unfold receiving
    isplitr; · iexact HK
    isplitl [Hin]; · iexact Hin
    iexact HO
  iintro ⟨Hrec, HI⟩
  -- the drains
  iapply (runs_forChunks c drainChunk (receiving m ρ K c) (fun k => beforeDrain (F := F) c k)
    (fun k => afterDrain (F := F) c k) (fun k ks Q => runs_drain m ρ K c k ks Q) chunks)
  isplitl [HaS HcS]
  · ihave HcS := (Entails.of_eq (bigSep_chunks fun k => cred (tallyAt (cell (c, .snd k)) () N)).symm) $$ HcS
    rw [← bigSep_chunks]
    unfold beforeDrain
    simp only [bigSep_sep']
    isplitl [HaS]; · iexact HaS
    iexact HcS
  isplitl [HI]; · iexact HI
  iintro ⟨Hdr, HI⟩
  iapply HQ
  ihave Hrec := (received m ρ c) $$ Hrec
  icases Hrec with ⟨Hrcv, Hres, HzR⟩
  ihave Hdr := (drained (F := F) c) $$ Hdr
  icases Hdr with ⟨Hsnd, HzS⟩
  unfold receiving
  icases HI with ⟨-, Hin, HO⟩
  ihave Hsnd := (join_snd c) $$ Hsnd
  ihave Hrcv := (join_rcv c) $$ Hrcv
  ihave Hres := (join_res m ρ c) $$ Hres
  unfold bodyPost scratch zeros
  rw [bigSep_slot]
  isplitl [Hsnd Hrcv]
  · isplitl [Hsnd] <;> iassumption
  isplitl [HzB HzS HzR]
  · isplitl [HzB]; · iexact HzB
    isplitl [HzS] <;> iassumption
  isplitl [Hin]; · iexact Hin
  isplitl [Hres]; · iexact Hres
  iexact HO

end Cert.OutProj

end
-- ==== Proof.Run.lean ====
/-
The launch: the devices' protocol set up, the body's proof put under the launch, and the run of `main` on all devices.
-/
module

public import proofs.«01_k».proof.Proof.Body
public import Idealize.ShloMosaic.Lib.Pipeline.CollectiveSegs

@[expose] public section

noncomputable section

namespace Cert.OutProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body under the launch -/

theorem points (t : Fin cfg0.N) : t = t0_0 := fin_N0 t

/-- The launch's data on device `c`: what each window's buffer holds after the body, what is held and owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oIn m ρ c
    | ⟨1, _⟩ => wIn m ρ c
    | ⟨2, _⟩ => outAt m ρ c
  Φ t := match t with
    | ⟨0, _⟩ => iprop(start m ρ c ∗ scratch (F := F) c)
    | ⟨_ + 1, _⟩ => iprop(scratch (F := F) c ∗ zeros (F := F) c)
  q _ := fullShare
  owed t := match t with
    | ⟨0, _⟩ => owed₀ c
    | ⟨_ + 1, _⟩ => 0

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  unfold owns
  simp only [Memref.view_whole, View.read_whole, View.set_whole]
  refine BI.equiv_iff.mp ⟨?_, ?_⟩
  · show iprop(∃ f : Buf (Elt F) ((c : Thread nD τ).loc b), ⌜f = X⌝ ∗ (((c : Thread nD τ).loc b) ↦{fullShare} f)) ⊢ _
    iintro ⟨%f, %hf, H⟩
    rw [hf]
    iexact H
  · show _ ⊢ iprop(∃ f : Buf (Elt F) ((c : Thread nD τ).loc b), ⌜f = X⌝ ∗ (((c : Thread nD τ).loc b) ↦{fullShare} f))
    iintro H
    iexists X
    isplitr
    · ipureintro; rfl
    iexact H

/-- What the body is given, spelled by its windows' buffers. -/
def given (c : Dev nD) : sProp 𝕄 :=
  iprop((start m ρ c ∗ scratch (F := F) c) ∗ (dats m ρ 0 c).owesAt () t0_0.castSucc
    ∗ (∃ d, ((c : Thread nD τ).loc cc0_stg0_0) ↦{fullShare} ((dats m ρ 0 c).before (0 : Fin 3) t0_0 d))
    ∗ (∃ d, ((c : Thread nD τ).loc cc0_stg1_0) ↦{fullShare} ((dats m ρ 0 c).before (1 : Fin 3) t0_0 d))
    ∗ (∃ d, ((c : Thread nD τ).loc cc0_stg2_0) ↦{fullShare} ((dats m ρ 0 c).before (2 : Fin 3) t0_0 d)))
def returned (c : Dev nD) : sProp 𝕄 :=
  iprop((scratch (F := F) c ∗ zeros (F := F) c) ∗ (dats m ρ 0 c).owesAt () t0_0.succ
    ∗ (((c : Thread nD τ).loc cc0_stg0_0) ↦{fullShare} oIn m ρ c)
    ∗ (((c : Thread nD τ).loc cc0_stg1_0) ↦{fullShare} wIn m ρ c)
    ∗ (((c : Thread nD τ).loc cc0_stg2_0) ↦{fullShare} outAt m ρ c))

theorem staged_0 (c : Dev nD) (d) : (dats m ρ 0 c).before (0 : Fin 3) t0_0 d = oIn m ρ c := by
  unfold Dat.before; rw [if_pos (show (cfg0.win (0 : Fin 3)).fetch t0_0 = true from rfl)]; rfl
theorem staged_1 (c : Dev nD) (d) : (dats m ρ 0 c).before (1 : Fin 3) t0_0 d = wIn m ρ c := by
  unfold Dat.before; rw [if_pos (show (cfg0.win (1 : Fin 3)).fetch t0_0 = true from rfl)]; rfl

theorem given_runs (c : Dev nD) : given m ρ c ⊢ runs c (program (F := F)) (fun _ => returned m ρ c) := by
  unfold given Dat.owesAt Pipeline.owesWithin
  iintro ⟨⟨Hst, Hscr⟩, ⟨%W, -, HO⟩, ⟨%d0, Ho⟩, ⟨%d1, Hw⟩, %d2, Hr⟩
  rw [staged_0, staged_1]
  iapply (runs_program m ρ c)
  isplitr []
  · unfold bodyPre inputs
    isplitl [Hst]; · iexact Hst
    isplitl [Hscr]; · iexact Hscr
    isplitl [Ho Hw]
    · isplitl [Ho] <;> iassumption
    isplitl [Hr]; · iexists _; iexact Hr
    iexists W; iexact HO
  · unfold bodyPost inputs returned Dat.owesAt Pipeline.owesWithin
    iintro ⟨Hscr, Hz, ⟨Ho, Hw⟩, Hr, %W', HO⟩
    isplitl [Hscr Hz]
    · isplitl [Hscr] <;> iassumption
    isplitl [HO]
    · iexists W'
      isplitr
      · ipureintro; exact fun _ _ => Or.inl trivial
      iexact HO
    isplitl [Ho]; · iexact Ho
    isplitl [Hw]; · iexact Hw
    iexact Hr

set_option maxRecDepth 8000 in
/-- What the launch asks of the body. -/
theorem body_obligation (c : Dev nD) : BodyObligation (dats (F := F) m ρ 0 c) (defs₀ (F := F)) Variants.none () Set.univ := fun t => by
  rw [points t, bigSep_W0, bigSep_W0]
  simp only [owns_buffer]
  show given m ρ c ⊢ runs c (cc0_body oM (Memref.isWhole_whole _) wM (Memref.isWhole_whole _) rM (Memref.isWhole_whole _)
      sndM (Memref.isWhole_whole _) rcvM (Memref.isWhole_whole _) cc0_scratch2 cc0_scratch3) (fun _ => returned m ρ c)
  rw [body_eq_program]
  exact given_runs m ρ c

/-! ## The protocol set up -/

/-- The kernel's own semaphores: the send semaphores, then the receive semaphores. -/
abbrev ownSem (s : Fin 8 ⊕ Fin 8) : SemLoc sig := slotSem (.inr s)

theorem share_full (c : Dev nD) (w : Fin cfg0.W) : (dats m ρ 0 c).share w = fullShare := by unfold Dat.share; split <;> rfl

def allCells : Finset (GSem nD τ sig) := Finset.univ.map ⟨cell, cell_injective⟩
def duty (x : Dev nD × Slot) : GSem nD τ sig × ℕ × Unit := (cell x, 0, ())
theorem duty_injective : Function.Injective duty := fun _ _ h => cell_injective (congrArg Prod.fst h)
def allDuties : Finset (GSem nD τ sig × ℕ × Unit) := Finset.univ.map ⟨duty, duty_injective⟩

def u₀ : UU :=
  (initOf (Pipeline.cells cfgs cellOf_inj) (Pipeline.launchToks cfgs cellOf_inj), initOf allCells allDuties)

/-- What device `c` gets of the protocol's state, and what it has after the common step. -/
def share₀ (c : Dev nD) : sProp 𝕄 :=
  iprop((bigSep Finset.univ fun s : Slot => roundState EX (plan m ρ) (cell (c, s)) 0)
    ∗ (bigSep Finset.univ fun s : Slot => reached EX (cell (c, s)) 0)
    ∗ places (F := F) c ∗ bigSep Finset.univ fun s : Slot => dutyTok EX (cell (c, s)) 0 ())
def share₁ (c : Dev nD) : sProp 𝕄 := iprop(∃ K, records m ρ K ∗ places (F := F) c ∗ rights (F := F) c)

theorem deal : BI.own (EX (initOf allCells allDuties)) ⊢ (|==> bigSep Finset.univ (share₀ m ρ) : sProp 𝕄) := by
  have hc (Φ : GSem nD τ sig → sProp 𝕄) :
      bigSep allCells Φ = bigSep Finset.univ fun c : Dev nD => bigSep Finset.univ fun s : Slot => Φ (cell (c, s)) := by
    unfold allCells; rw [bigSep_map, bigSep_univ_prod]; rfl
  have hd : bigSep allDuties (fun x => (dutyTok EX x.1 x.2.1 x.2.2 : sProp 𝕄))
      = bigSep Finset.univ fun c : Dev nD => bigSep Finset.univ fun s : Slot => dutyTok EX (cell (c, s)) 0 () := by
    unfold allDuties; rw [bigSep_map, bigSep_univ_prod]; rfl
  iintro HX
  imod (Rounds.fund EX (plan m ρ) allCells allDuties) $$ HX with ⟨Hst, Hr, Hat, Htok⟩
  imodintro
  ihave Hst := (Entails.of_eq (hc fun g => roundState EX (plan m ρ) g 0)) $$ Hst
  ihave Hr := (Entails.of_eq (hc fun g => reached EX g 0)) $$ Hr
  ihave Hat := (Entails.of_eq (hc fun g => atPos EX g 0 ∅ 0)) $$ Hat
  ihave Htok := (Entails.of_eq hd) $$ Htok
  unfold share₀ places
  simp only [bigSep_sep']
  isplitl [Hst]; · iexact Hst
  isplitl [Hr]; · iexact Hr
  isplitl [Hat]; · iexact Hat
  iexact Htok

/-! ### The semaphores at zero -/

theorem bigSep_bar (Φ : Slot → sProp 𝕄) : bigSep Finset.univ Φ = iprop(Φ .bar ∗ bigSep Finset.univ fun s => Φ (.inr s)) := by
  rw [bigSep_univ_sum, bigSep_univ_of_subsingleton ()]
  rfl

/-- The barrier is the one semaphore that is not the launch's to make. -/
theorem unscoped_eq (c : Dev nD) : (unscopedSems0 c : sProp 𝕄) = semVal (cell (c, .bar)) 0 := by
  unfold unscopedSems0; rw [bigSep_eq_bigSepL_of_eq [slotSem .bar] (by decide) (by decide)]; rfl

theorem zeros_eq (c : Dev nD) :
    zeros (F := F) c = iprop(unscopedSems0 c ∗ Pipeline.ownSems0 (Ix := Unit) (Name := ℕ) (U := UU) (Lvl := ℕ) (Val := Elt F) (τ := τ) ownSem c) := by
  unfold zeros Pipeline.ownSems0
  rw [bigSep_bar, unscoped_eq]

/-! ### The common step -/

theorem enter (c : Dev nD) :
    iprop(Pipeline.ownSems0 (Ix := Unit) (Name := ℕ) (U := UU) (Lvl := ℕ) (Val := Elt F) (τ := τ) ownSem c ∗ unscopedSems0 c ∗ share₀ m ρ c)
      ⊢ |={Set.univ}=> iprop((bigSep Finset.univ fun s : Slot => iprop(∃ κ : ℕ, cellInv EX (plan m ρ) κ (cell (c, s))))
          ∗ (bigSep Finset.univ fun s : Slot => reached EX (cell (c, s)) 0)
          ∗ places (F := F) c ∗ bigSep Finset.univ fun s : Slot => dutyTok EX (cell (c, s)) 0 ()) := by
  have halloc : iprop(zeros (F := F) c ∗ bigSep Finset.univ fun s : Slot => roundState EX (plan m ρ) (cell (c, s)) 0)
      ⊢ |={Set.univ}=> bigSep Finset.univ fun s : Slot => iprop(∃ κ : ℕ, cellInv EX (plan m ρ) κ (cell (c, s))) := by
    unfold zeros
    rw [← bigSep_sep']
    exact (bigSep_mono fun s _ => (Rounds.body_intro EX (plan m ρ) (cell (c, s))).trans inv_alloc).trans (bigSep_fupd _ _)
  unfold share₀
  iintro ⟨Hown, Hbar, Hst, Hr, Hrest⟩
  imod halloc $$ [Hown Hbar Hst] with HI
  · isplitr [Hst]
    · iapply (Entails.of_eq (zeros_eq (F := F) c).symm)
      isplitl [Hbar] <;> iassumption
    iexact Hst
  imodintro
  isplitl [HI]; · iexact HI
  isplitl [Hr]; · iexact Hr
  iexact Hrest

/-- Each duty is named by the device that pays it. -/
def payer : Dev nD × Slot ≃ Dev nD × Slot := ⟨paid, paid, paid_paid, paid_paid⟩

theorem duties_dealt :
    (bigSep Finset.univ fun c : Dev nD => bigSep Finset.univ fun s : Slot => (dutyTok EX (cell (c, s)) 0 () : sProp 𝕄))
      = bigSep Finset.univ fun c : Dev nD => rights (F := F) c := by
  unfold rights
  rw [← bigSep_univ_prod (fun x : Dev nD × Slot => (dutyTok EX (cell x) 0 () : sProp 𝕄)),
    bigSep_univ_equiv payer (fun x : Dev nD × Slot => (dutyTok EX (cell x) 0 () : sProp 𝕄)), bigSep_univ_prod]
  rfl

/-- What holds for good may be used for every device. -/
theorem for_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem shared :
    (bigSep Finset.univ fun c : Dev nD => iprop((bigSep Finset.univ fun s : Slot => iprop(∃ κ : ℕ, cellInv EX (plan m ρ) κ (cell (c, s))))
          ∗ (bigSep Finset.univ fun s : Slot => reached EX (cell (c, s)) 0)
          ∗ places (F := F) c ∗ bigSep Finset.univ fun s : Slot => dutyTok EX (cell (c, s)) 0 ()) : sProp 𝕄)
      ⊢ bigSep Finset.univ (share₁ m ρ) := by
  simp only [bigSep_sep']
  rw [duties_dealt, ← bigSep_univ_prod (fun x : Dev nD × Slot => iprop(∃ κ : ℕ, cellInv EX (plan m ρ) κ (cell x))),
    ← bigSep_univ_prod (fun x : Dev nD × Slot => (reached EX (cell x) 0 : sProp 𝕄))]
  iintro ⟨HI, #HR, Hpl, Hri⟩
  ihave HK := (BI.bigSep_exists_pi Finset.univ (fun (x : Dev nD × Slot) (κ : ℕ) => (cellInv EX (plan m ρ) κ (cell x) : sProp 𝕄))) $$ HI
  icases HK with ⟨%K, #HI⟩
  have hc (c : Dev nD) : iprop(records m ρ K ∗ places (F := F) c ∗ rights (F := F) c) ⊢ share₁ m ρ c := by
    unfold share₁
    iintro H
    iexists K
    iexact H
  iapply (for_each (R := records m ρ K) hc)
  isplitr
  · unfold records
    isplitl
    · iexact HI
    iexact HR
  rw [bigSep_sep']
  isplitl [Hpl] <;> iassumption

theorem common :
    (bigSep Finset.univ fun c => iprop(Pipeline.ownSems0 (Ix := Unit) (Name := ℕ) (U := UU) (Lvl := ℕ) (Val := Elt F) (τ := τ) ownSem c
        ∗ unscopedSems0 c ∗ share₀ m ρ c) : sProp 𝕄)
      ⊢ |={Set.univ}=> bigSep Finset.univ (share₁ m ρ) :=
  ((bigSep_mono fun c _ => enter m ρ c).trans (bigSep_fupd _ _)).trans (BI.fupd_mono (shared m ρ))

/-! ### The credit -/

theorem cell_eq_iff {x y : Dev nD × Slot} : cell x = cell y ↔ x = y := ⟨fun h => cell_injective h, fun h => h ▸ rfl⟩

theorem tally_cell (x y : Dev nD × Slot) (n : ℕ) : (tallyAt (cell x) () n : CellTallies nD τ sig Unit) (cell y) () = if x = y then n else 0 := by
  rw [tallyAt_apply]
  by_cases h : x = y
  · rw [if_pos h, if_pos ⟨h ▸ rfl, rfl⟩]
  · rw [if_neg h, if_neg fun h' => h (cell_eq_iff.mp h'.1.symm)]

theorem owe_cell (d c : Dev nD) (s : Slot) (ks : List (Fin 8)) :
    owe d ks (cell (c, s)) () = (ks.map fun k => if (peer d, Slot.rcv k) = (c, s) then N else 0).sum := by
  induction ks with
  | nil => rfl
  | cons k ks ih => rw [owe, Pi.add_apply, Finsupp.add_apply, ih, tally_cell, List.map_cons, List.sum_cons, Nat.add_comm]

/-- What device `d` owes to a semaphore of device `c`'s: the units of it, if `c` is its peer and the slot is no send semaphore. -/
theorem owed_cell (d c : Dev nD) (s : Slot) (hs : s = .bar ∨ ∃ k, s = .rcv k) :
    owed₀ d (cell (c, s)) () = if d = peer c then units s else 0 := by
  rw [owed₀, Pi.add_apply, Finsupp.add_apply, owe_cell, tally_cell]
  have hp : peer d = c ↔ d = peer c := ⟨fun h => by rw [← h, peer_peer], fun h => by rw [h, peer_peer]⟩
  rcases hs with rfl | ⟨k, rfl⟩
  · by_cases h : d = peer c
    · subst h; simp [peer_peer, units]
    · simp [hp, h]
  · by_cases h : d = peer c
    · subst h
      rw [peer_peer, if_pos rfl]
      clear hp
      revert k c; decide
    · simp [hp, h]

theorem launch_cell (c : Dev nD) (s : Slot) (hs : s = .bar ∨ ∃ k, s = .rcv k) :
    tallyOn (cell (c, s)) (launchCredit (Pipeline.owing owed₀) 0 (cell (c, s))) = (tallyAt (cell (c, s)) () (units s) : CellTallies nD τ sig Unit) := by
  unfold tallyAt; refine congrArg _ (Finsupp.ext fun u => ?_); cases u
  rw [Pipeline.launchCredit_owing, Finsupp.single_eq_same, Finset.sum_congr rfl fun d _ => owed_cell d c s hs,
    Finset.sum_ite_eq' Finset.univ (peer c) fun _ => units s, if_pos (Finset.mem_univ _)]

theorem credits_intro (c : Dev nD) : (Pipeline.launchCred owed₀ c : sProp 𝕄) ⊢ credits (F := F) c := by
  have hbar : (cred (tallyAt (cell (c, .bar)) () 1) : sProp 𝕄)
      = cred (tallyOn (cell (c, .bar)) (launchCredit (Pipeline.owing owed₀) 0 (cell (c, .bar)))) := by
    rw [launch_cell c .bar (.inl rfl)]; rfl
  have hrcv (k : Fin 8) : (cred (tallyAt (cell (c, .rcv k)) () N) : sProp 𝕄)
      = cred (tallyOn (cell (c, .rcv k)) (launchCredit (Pipeline.owing owed₀) 0 (cell (c, .rcv k)))) := by
    rw [launch_cell c (.rcv k) (.inr ⟨k, rfl⟩)]; rfl
  have hinj : Function.Injective fun k : Fin 8 => slotSem (.rcv k) := fun k k' h => by
    simpa [Slot.rcv] using slotSem_injective h
  unfold Pipeline.launchCred credits
  rw [bigSep_univ_at _ (slotSem .bar), hbar]
  refine sep_mono_right ?_
  simp only [hrcv]
  refine (bigSep_subset (t := Finset.univ.map ⟨_, hinj⟩) ?_).trans (Entails.of_eq (bigSep_map _))
  intro sm h
  obtain ⟨k, -, rfl⟩ := Finset.mem_map.mp h
  refine Finset.mem_erase.mpr ⟨fun h' => ?_, Finset.mem_univ _⟩
  have := slotSem_injective (a₁ := .rcv k) (a₂ := .bar) h'
  cases this

/-! ### In and out -/

theorem start_intro (c : Dev nD) :
    iprop(Pipeline.unscopedRestP Pipeline.Prefetch.none cfg0.spec c (fun b => m ((c : Thread nD τ).loc b)) ∗ levAts levSet lev
        ∗ Pipeline.launchCred owed₀ c ∗ prngReg c (ρ c) ∗ share₁ m ρ c)
      ⊢ |={Set.univ}=> iprop(start m ρ c ∗ emp) := by
  iintro ⟨-, Hlev, Hcr, -, HG⟩
  ihave Hc := (credits_intro (F := F) c) $$ Hcr
  imodintro
  unfold start share₁
  isplitl
  · isplitl [HG]; · iexact HG
    isplitl [Hc]; · iexact Hc
    iexact Hlev
  · iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch (F := F) c) from rfl, scopedRest0_eq]
  unfold scratch
  iintro ⟨Hs, -, Hr⟩
  isplitl [Hs] <;> iassumption

theorem last_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = iprop(scratch (F := F) c ∗ zeros (F := F) c) from rfl, scopedRest0_eq, zeros_eq]
  unfold scratch
  iintro ⟨Hr, Hb, Ho⟩
  isplitl [Hb]; · iexact Hb
  isplitl [Ho] <;> iassumption

theorem own_facts : Pipeline.OwnSemFacts cfg0.spec ownSem := by decide

theorem stage_slot (w : Fin 3) (s : Fin (cfg0.spec w).nbuf) : slotOf (.dma ((cfg0.spec w).sem s)) = none := by
  unfold slotOf
  rw [dif_neg]
  revert w s; decide

theorem waits (c : Dev nD) : (levAts levSet lev : sProp 𝕄) ⊢ Pipeline.cellsWaits cfgs (dats m ρ) () 0 c :=
  Pipeline.cellsWaits_intro cfgs (dats m ρ) () 0 c fun w s t =>
    may_wait_stage c _ (stage_slot w s) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

set_option maxRecDepth 8000 in
/-- From any memory with the counters at zero, every fair run of `main` on the four devices ends, with the three arrays of
    each device at `finalA` and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ Variants.none m ρ main
    (hmain := fun _ => rfl)
    (hbody := body_obligation m ρ) (hne := block_pos0) (harr := arr_whole0) (hstage := stage_whole0) (hshare := share_full m ρ)
    (hdistinct := winFacts0.arr_inj)
    (O₀ := owed₀) (howed₀ := fun _ => rfl) (howedN := fun _ => rfl)
    (L := levSet) (lv := lev) (hL := levSet_ne) (hwaits := waits m ρ)
    (G := share₀ m ρ) (G' := share₁ m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := common m ρ)
    (hA := fun _ _ => rfl) (hpf := fun _ k => k.elim0)
    (X := start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `O` and the block of `Wo` end as they began, -/
theorem finalA_0 (c : Dev nD) : finalA m ρ c (0 : Fin 3) = m ((c : Thread nD τ).loc main_arg0) :=
  (dats (F := F) m ρ 0 c).arrAt_in (0 : Fin 3) rfl _
theorem finalA_1 (c : Dev nD) : finalA m ρ c (1 : Fin 3) = m ((c : Thread nD τ).loc main_arg1) :=
  (dats (F := F) m ρ 0 c).arrAt_in (1 : Fin 3) rfl _

/-- So every run ends with the arguments and the semaphores as they were. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_0 m ρ c), (h.1 c (1 : Fin 3)).trans (finalA_1 m ρ c)⟩, h.2⟩)
    (run_main m ρ)

end Cert.OutProj

end
-- ==== Proof.Value.lean ====
/-
What the devices compute, over the extended reals: each chunk of the result is a sum over all sixteen heads.
-/
module

public import proofs.«01_k».proof.Proof.Run
public import Idealize.ShloMosaic.Lib.Pointwise

@[expose] public section

noncomputable section

namespace Cert.OutProj

open Cert.KernelIdeal Cert.KernelIdeal.Gen
open Idealize.ShloMosaic
open Idealize.ShloMosaic.TcCoe

/-! ## A partial product -/

/-- One head's product, read at row `r` and column `n`. -/
theorem addHead_apply (acc : FVec Ideal S128x1024 .f32) (a : Vec Ideal S1x128x1x64 .f32) (w : Vec Ideal S64x1024 .f32)
    (r : Fin 128) (n : Fin 1024) :
    addHead acc a w (ix2 r n) = acc (ix2 r n) + ∑ d : Fin 64, a (ix4 0 r 0 d) * w (ix2 d n) := by
  pointwise [addHead]

/-- The accumulator starts at zero. -/
theorem zeroAcc_apply (r : Fin 128) (n : Fin 1024) : zeroAcc (F := Ideal) (ix2 r n) = 0 := by
  pointwise [zeroAcc]

/-- The batch entry chunk `k` belongs to. -/
def batchOf (k : Fin 8) : Fin 4 := ⟨k.val / 2, by omega⟩
theorem rowOf_lt {x : BitVec 32} (hx : IsX x) (k : Fin 8) (r : Fin 128) : x.toNat * 256 + k.val % 2 * 128 + r.val < 512 := by
  have hx1 : x.toNat ≤ 1 := by rcases hx with rfl | rfl <;> decide
  omega
/-- The row of a block of `O` that row `r` of chunk `k` is, the chunks starting at row block `x`. -/
def rowOf {x : BitVec 32} (hx : IsX x) (k : Fin 8) (r : Fin 128) : Fin 512 := ⟨_, rowOf_lt hx k r⟩

/-- What a load of one head's rows of a chunk reads. -/
theorem rows_read {x : BitVec 32} (hx : IsX x) (k : Fin 8) {h : Nat} (hh : h < 8) (o : FVec Ideal S4x512x8x64 .f32) (r : Fin 128) (d : Fin 64) :
    oM.view.readAt (Elt Ideal) (rows hx k hh).toLoadRect o (ix4 0 r 0 d) = o (ix4 (batchOf k) (rowOf hx k r) ⟨h, hh⟩ d) := by
  show o _ = o _
  congr 1
  funext a
  apply Fin.ext
  show rowOff x k h a + 1 * _ = _
  rw [rowOff_eq hx]
  fin_cases a
  · show k.val / 2 + 1 * 0 = k.val / 2; omega
  · show x.toNat * 256 + k.val % 2 * 128 + 1 * r.val = x.toNat * 256 + k.val % 2 * 128 + r.val; omega
  · show h + 1 * 0 = h; omega
  · show 0 + 1 * d.val = d.val; omega

theorem col_lt {h : Nat} (hh : h < 8) (d : Fin 64) : h * 64 + d.val < 512 := by omega
/-- What a load of one head's rows of the weights reads. -/
theorem headRows_read {h : Nat} (hh : h < 8) (w : FVec Ideal S512x1024 .f32) (d : Fin 64) (n : Fin 1024) :
    wM.view.readAt (Elt Ideal) (headRows hh).toLoadRect w (ix2 d n) = w (ix2 ⟨h * 64 + d.val, col_lt hh d⟩ n) := by
  show w _ = w _
  congr 1
  funext a
  apply Fin.ext
  fin_cases a
  · show h * 64 + 1 * d.val = h * 64 + d.val; omega
  · show 0 + 1 * n.val = n.val; omega

/-- Row `s` of batch entry `b` of a block of `O`, times column `n` of a block of `Wo`, over the one head `h`; -/
def headDot (o : FVec Ideal S4x512x8x64 .f32) (w : FVec Ideal S512x1024 .f32) (b : Fin 4) (s : Fin 512) (n : Fin 1024) (h : Fin 8) : EReal :=
  ∑ d : Fin 64, o (ix4 b s h d) * w (ix2 ⟨h.val * 64 + d.val, col_lt h.isLt d⟩ n)
/-- over all the heads of the blocks. -/
def rowDot (o : FVec Ideal S4x512x8x64 .f32) (w : FVec Ideal S512x1024 .f32) (b : Fin 4) (s : Fin 512) (n : Fin 1024) : EReal :=
  ∑ h : Fin 8, headDot o w b s n h

/-- The partial product after `i` heads is the sum over those heads, -/
theorem partialVal_apply (o : FVec Ideal S4x512x8x64 .f32) (w : FVec Ideal S512x1024 .f32) {x : BitVec 32} (hx : IsX x) (k : Fin 8)
    (r : Fin 128) (n : Fin 1024) : ∀ (i : Nat) (hi : i ≤ 8),
      partialVal (F := Ideal) o w hx k i hi (ix2 r n) = ∑ h : Fin i, headDot o w (batchOf k) (rowOf hx k r) n (h.castLE hi)
  | 0, _ => by rw [partialVal, zeroAcc_apply]; rfl
  | i + 1, hi => by
    rw [partialVal, addHead_apply, partialVal_apply o w hx k r n i, Fin.sum_univ_castSucc (n := i)]
    exact congrArg (fun t : EReal => _ + t) (Finset.sum_congr rfl fun d _ =>
      congrArg₂ (fun a b : EReal => a * b) (rows_read hx k hi o r d) (headRows_read hi w d n))

/-- and after all eight the row's whole product. -/
theorem partialVal_eight (o : FVec Ideal S4x512x8x64 .f32) (w : FVec Ideal S512x1024 .f32) {x : BitVec 32} (hx : IsX x) (k : Fin 8)
    (r : Fin 128) (n : Fin 1024) :
    partialVal (F := Ideal) o w hx k 8 le_rfl (ix2 r n) = rowDot o w (batchOf k) (rowOf hx k r) n :=
  partialVal_apply o w hx k r n 8 le_rfl

/-! ## A chunk of the result -/

/-- Adding a partial product that was narrowed to bf16 and widened again adds the partial product itself. -/
theorem summed_apply (v : FVec Ideal S128x1024 .f32) (u : FVec Ideal S128x1024 .f32) (r : Fin 128) (n : Fin 1024) :
    summed v (packed u) (ix3 0 r n) = v (ix2 r n) + u (ix2 r n) := by
  pointwise [summed, packed]

variable (m : (ℓ : Loc nD τ sig) → Buf (Elt Ideal) ℓ) (ρ : Dev nD → PrngReg)

/-- The staged block of `O`, and that of `Wo`, is the device's argument. -/
theorem oIn_eq (c : Dev nD) : oIn m ρ c = m ((c : Thread nD τ).loc main_arg0) := by
  funext i
  show m ((c : Thread nD τ).loc main_arg0) _ = m ((c : Thread nD τ).loc main_arg0) _
  congr 1
  funext a
  apply Fin.ext
  fin_cases a <;> show 0 * _ + 1 * _ = _ <;> omega
theorem wIn_eq (c : Dev nD) : wIn m ρ c = m ((c : Thread nD τ).loc main_arg1) := by
  funext i
  show m ((c : Thread nD τ).loc main_arg1) _ = m ((c : Thread nD τ).loc main_arg1) _
  congr 1
  funext a
  apply Fin.ext
  fin_cases a <;> show 0 * _ + 1 * _ = _ <;> omega

theorem row_lt (c : Dev nD) (s : Fin 256) : c.val / 2 * 256 + s.val < 512 := by have := c.isLt; have : c.val < 4 := this; omega
/-- The products device `d` contributes to element `i` of device `c`'s block of the result. -/
def devDot (c d : Dev nD) (i : S4x256x1024.Idx) : EReal :=
  rowDot (m ((d : Thread nD τ).loc main_arg0)) (m ((d : Thread nD τ).loc main_arg1)) (i 0) ⟨c.val / 2 * 256 + (i 1).val, row_lt c (i 1)⟩ (i 2)

theorem own_row (c : Dev nD) : (ownX c).toNat = c.val / 2 := by revert c; decide
theorem peer_row (c : Dev nD) : (peerX (peer c)).toNat = c.val / 2 := by revert c; decide

/-- Row `r` of chunk `k`, taken at device `c`'s row block, is a row of `c`'s block of the result. -/
theorem rowOf_resIdx {x : BitVec 32} (hx : IsX x) (c : Dev nD) (h : x.toNat = c.val / 2) (k : Fin 8) (r : Fin 128) (n : Fin 1024) :
    rowOf hx k r = ⟨c.val / 2 * 256 + (resIdx (k, ix3 0 r n) 1).val, row_lt c _⟩ := by
  apply Fin.ext
  show x.toNat * 256 + k.val % 2 * 128 + r.val = c.val / 2 * 256 + (k.val % 2 * 128 + 1 * r.val)
  rw [h]; omega

/-- Each element of device `c`'s block of the result is the sum of the two devices' contributions. -/
theorem outAt_apply (c : Dev nD) (i : S4x256x1024.Idx) : outAt m ρ c i = devDot m c c i + devDot m c (peer c) i := by
  obtain ⟨⟨k, j⟩, rfl⟩ := resIdx_surjective i
  obtain ⟨r, n, rfl⟩ : ∃ (r : Fin 128) (n : Fin 1024), j = ix3 0 r n :=
    ⟨j 1, j 2, (eq_ix3 j).trans (congrArg (ix3 · (j 1) (j 2)) (Subsingleton.elim (α := Fin 1) (j 0) 0))⟩
  have hb : resIdx (k, ix3 0 r n) 0 = batchOf k := Fin.ext (by show k.val / 2 + 1 * 0 = k.val / 2; omega)
  have hn : resIdx (k, ix3 0 r n) 2 = n := Fin.ext (by show 0 + 1 * n.val = n.val; omega)
  rw [outAt_resIdx]
  unfold outChunk sent devDot
  rw [summed_apply, partialVal_eight, partialVal_eight, oIn_eq, wIn_eq, oIn_eq, wIn_eq,
    rowOf_resIdx (isX_own c) c (own_row c) k r n, rowOf_resIdx (isX_peer (peer c)) c (peer_row c) k r n, hb, hn]

/-- The result's array holds it after the run. -/
theorem res_read (c : Dev nD) : (win0_2.blk (0 : Fin 1)).view.read (Elt Ideal) (outAt m ρ c) = outAt m ρ c := by
  funext i
  show outAt m ρ c _ = outAt m ρ c _
  congr 1
  funext a
  apply Fin.ext
  fin_cases a <;> show 0 * _ + 1 * _ = _ <;> omega
theorem res_flushed (c : Dev nD) (t : Fin cfg0.N) :
    (dats m ρ 0 c).flushed (2 : Fin 3) t = ((cfg0.win (2 : Fin 3)).blk t).view.read (Elt Ideal) (outAt m ρ c) := by
  obtain rfl := fin_N0 t
  exact (res_read m ρ c).symm
theorem res_cover (i : S4x256x1024.Idx) :
    ∃ t : Fin cfg0.N, (cfg0.win (2 : Fin 3)).flush t = true ∧ i ∈ ((cfg0.win (2 : Fin 3)).blk t).view.set := by
  refine ⟨t0_0, rfl, ?_⟩
  show i ∈ ((View.whole main_v1).slice (win0_2.rect t0_0)).set
  rw [View.set_slice_whole, Rect.mem_set_unit]
  intro a
  have h := (i a).isLt
  fin_cases a <;> exact ⟨Nat.zero_le _, lt_of_lt_of_eq h (Nat.zero_add _).symm⟩
theorem finalA_2 (c : Dev nD) : finalA m ρ c (2 : Fin 3) = outAt m ρ c :=
  (dats m ρ 0 c).arrAt_eq_of_cover (2 : Fin 3) (outAt m ρ c) (fun t _ => res_flushed m ρ c t) res_cover

end Cert.OutProj

end
-- ==== Proof.Reference.lean ====
/-
What the reference computes, over the extended reals: each element is a sum over the heads of the two row blocks of the mesh.
-/
module

public import proofs.«01_k».proof.Proof.Gen.ReferenceIdeal
public import Idealize.ShloMosaic.Lib.Pointwise

@[expose] public section

noncomputable section

namespace Cert.OutProj.Reference

open Cert.ReferenceIdeal Cert.ReferenceIdeal.Gen
open Idealize.ShloMosaic

/-- The reference's result, of its arguments. -/
abbrev result (O : FVec Ideal S4x512x16x64 .f32) (W : FVec Ideal S1024x1024 .f32) : FVec Ideal S4x512x1024 .f32 :=
  Host.dotGeneral dot_S4x512x1024_S1024x1024_S4x512x1024_2_0_01_1_n_n none (shapeCast _ O shapeCasts_S4x512x16x64_S4x512x1024) W

theorem head_lt (y : Fin 2) (h : Fin 8) : y.val * 8 + h.val < 16 := by omega
theorem line_lt (y : Fin 2) (h : Fin 8) (d : Fin 64) : y.val * 512 + (h.val * 64 + d.val) < 1024 := by omega
/-- The part of an element that the heads of block `y` give. -/
def half (O : FVec Ideal S4x512x16x64 .f32) (W : FVec Ideal S1024x1024 .f32) (b : Fin 4) (s : Fin 512) (n : Fin 1024) (y : Fin 2) : EReal :=
  ∑ h : Fin 8, ∑ d : Fin 64, O (ix4 b s ⟨y.val * 8 + h.val, head_lt y h⟩ d) * W (ix2 ⟨y.val * 512 + (h.val * 64 + d.val), line_lt y h d⟩ n)

/-- The product at position `k` of the contraction. -/
def term (O : FVec Ideal S4x512x16x64 .f32) (W : FVec Ideal S1024x1024 .f32) (b : Fin 4) (s : Fin 512) (n : Fin 1024) (k : Fin 1024) : EReal :=
  O (ix4 b s ⟨k.val / 64, by omega⟩ ⟨k.val % 64, by omega⟩) * W (ix2 k n)

/-- An element of the result is the sum of its products over the contraction, -/
theorem result_line (O : FVec Ideal S4x512x16x64 .f32) (W : FVec Ideal S1024x1024 .f32) (b : Fin 4) (s : Fin 512) (n : Fin 1024) :
    result O W (ix3 b s n) = ∑ k : Fin 1024, term O W b s n k := by
  unfold term
  pointwise [result]

/-- half the contraction is the products of eight heads, -/
theorem half_eq (O : FVec Ideal S4x512x16x64 .f32) (W : FVec Ideal S1024x1024 .f32) (b : Fin 4) (s : Fin 512) (n : Fin 1024) (y : Fin 2) :
    (∑ i : Fin 512, term O W b s n ⟨y.val * 512 + i.val, by omega⟩) = half O W b s n y := by
  rw [Fin.sum_univ_tiles 8 64 (by decide)]
  refine Finset.sum_congr rfl fun h _ => Finset.sum_congr rfl fun d _ => ?_
  unfold term
  congr 3 <;> apply Fin.ext <;> simp only <;> omega

/-- so the element is the sum of the two halves. -/
theorem result_apply (O : FVec Ideal S4x512x16x64 .f32) (W : FVec Ideal S1024x1024 .f32) (b : Fin 4) (s : Fin 512) (n : Fin 1024) :
    result O W (ix3 b s n) = half O W b s n 0 + half O W b s n 1 := by
  rw [result_line, Fin.sum_univ_tiles 2 512 (by decide), Fin.sum_univ_two, ← half_eq, ← half_eq]

end Cert.OutProj.Reference

end
-- ==== Proof.Equation.lean ====
/-
Each device's block of the result is its block of the reference's result.
-/
module

public import proofs.«01_k».proof.Proof.Value
public import proofs.«01_k».proof.Proof.Reference
public import Idealize.ShloMosaic.Lib.Layout

@[expose] public section

noncomputable section

namespace Cert.OutProj

open Cert.KernelIdeal Cert.KernelIdeal.Gen
open Idealize.ShloMosaic
open Idealize.ShloMosaic.TcCoe

/-! ## A device's blocks -/

/-- Device `d`'s block of the whole `O`, of the whole `Wo`, and of a whole result. -/
abbrev OBlock (d : Dev nD) (O : FVec Ideal ⟨4, ![4, 512, 16, 64]⟩ .f32) : FVec Ideal S4x512x8x64 .f32 :=
  Layout.blockN ⟨4, ![4, 512, 8, 64]⟩ ⟨4, ![4, 512, 16, 64]⟩ (Layout.meshBlock [2, 2] ![[], [], [0], []] d) O
abbrev WBlock (d : Dev nD) (W : FVec Ideal ⟨2, ![1024, 1024]⟩ .f32) : FVec Ideal S512x1024 .f32 :=
  Layout.blockN ⟨2, ![512, 1024]⟩ ⟨2, ![1024, 1024]⟩ (Layout.meshBlock [2, 2] ![[0], []] d) W
abbrev RBlock (c : Dev nD) (R : FVec Ideal ⟨3, ![4, 512, 1024]⟩ .f32) : FVec Ideal S4x256x1024 .f32 :=
  Layout.blockN ⟨3, ![4, 256, 1024]⟩ ⟨3, ![4, 512, 1024]⟩ (Layout.meshBlock [2, 2] ![[], [0], []] c) R

/-- A device's row block of the mesh. -/
def rowBlock (d : Dev nD) : Fin 2 := ⟨d.val / 2, by have := d.isLt; have : d.val < 4 := this; omega⟩

/-- Where each block lies: along the axis that is cut, at the device's row block, and at the start along the others. -/
theorem O_at (d : Dev nD) (a : Fin 4) : (Layout.meshBlock [2, 2] ![[], [], [0], []] d (by decide) a).val = ![0, 0, (rowBlock d).val, 0] a := by
  revert d a; decide
theorem W_at (d : Dev nD) (a : Fin 2) : (Layout.meshBlock [2, 2] ![[0], []] d (by decide) a).val = ![(rowBlock d).val, 0] a := by
  revert d a; decide
theorem R_at (d : Dev nD) (a : Fin 3) : (Layout.meshBlock [2, 2] ![[], [0], []] d (by decide) a).val = ![0, (rowBlock d).val, 0] a := by
  revert d a; decide

/-- The blocks, element by element. -/
theorem OBlock_apply (d : Dev nD) (O : FVec Ideal ⟨4, ![4, 512, 16, 64]⟩ .f32) (b : Fin 4) (s : Fin 512) (h : Fin 8) (e : Fin 64) :
    OBlock d O (ix4 b s h e) = O (ix4 b s ⟨(rowBlock d).val * 8 + h.val, Reference.head_lt _ h⟩ e) := by
  show O _ = O _
  congr 1
  funext a
  apply Fin.ext
  rw [Layout.TilesN.idx_val]
  refine (congrArg (· * _ + _) (O_at d a)).trans ?_
  fin_cases a
  · exact (congrArg (· + b.val) (Nat.zero_mul 4)).trans (Nat.zero_add _)
  · exact (congrArg (· + s.val) (Nat.zero_mul 512)).trans (Nat.zero_add _)
  · rfl
  · exact (congrArg (· + e.val) (Nat.zero_mul 64)).trans (Nat.zero_add _)
theorem WBlock_apply (d : Dev nD) (W : FVec Ideal ⟨2, ![1024, 1024]⟩ .f32) (i : Fin 512) (n : Fin 1024) :
    WBlock d W (ix2 i n) = W (ix2 ⟨(rowBlock d).val * 512 + i.val, by omega⟩ n) := by
  show W _ = W _
  congr 1
  funext a
  apply Fin.ext
  rw [Layout.TilesN.idx_val]
  refine (congrArg (· * _ + _) (W_at d a)).trans ?_
  fin_cases a
  · rfl
  · exact (congrArg (· + n.val) (Nat.zero_mul 1024)).trans (Nat.zero_add _)
theorem RBlock_apply (c : Dev nD) (R : FVec Ideal ⟨3, ![4, 512, 1024]⟩ .f32) (i : S4x256x1024.Idx) :
    RBlock c R i = R (ix3 (i 0) ⟨c.val / 2 * 256 + (i 1).val, row_lt c (i 1)⟩ (i 2)) := by
  show R _ = R _
  congr 1
  funext a
  apply Fin.ext
  rw [Layout.TilesN.idx_val]
  refine (congrArg (· * _ + _) (R_at c a)).trans ?_
  fin_cases a
  · exact (congrArg (· + (i 0).val) (Nat.zero_mul 4)).trans (Nat.zero_add _)
  · rfl
  · exact (congrArg (· + (i 2).val) (Nat.zero_mul 1024)).trans (Nat.zero_add _)

/-- A device's row times its columns is its heads' part of the reference's. -/
theorem rowDot_block (d : Dev nD) (O : FVec Ideal ⟨4, ![4, 512, 16, 64]⟩ .f32) (W : FVec Ideal ⟨2, ![1024, 1024]⟩ .f32)
    (b : Fin 4) (s : Fin 512) (n : Fin 1024) : rowDot (OBlock d O) (WBlock d W) b s n = Reference.half O W b s n (rowBlock d) := by
  refine Finset.sum_congr rfl fun h _ => Finset.sum_congr rfl fun e _ => ?_
  rw [OBlock_apply, WBlock_apply]

/-! ## The equation -/

/-- A device and its peer have the two row blocks. -/
theorem both_halves (c : Dev nD) (f : Fin 2 → EReal) : f (rowBlock c) + f (rowBlock (peer c)) = f 0 + f 1 := by
  have h : (rowBlock c = 0 ∧ rowBlock (peer c) = 1) ∨ (rowBlock c = 1 ∧ rowBlock (peer c) = 0) := by revert c; decide
  rcases h with ⟨h1, h2⟩ | ⟨h1, h2⟩ <;> rw [h1, h2]
  exact add_comm _ _

section

variable (m : (ℓ : Loc nD τ sig) → Buf (Elt Ideal) ℓ) (ρ : Dev nD → PrngReg)
  (O : FVec Ideal ⟨4, ![4, 512, 16, 64]⟩ .f32) (W : FVec Ideal ⟨2, ![1024, 1024]⟩ .f32)
  (hO : ∀ d : Dev nD, m ((d : Thread nD τ).loc main_arg0) = OBlock d O) (hW : ∀ d : Dev nD, m ((d : Thread nD τ).loc main_arg1) = WBlock d W)
include hO hW

/-- What device `d` contributes to device `c`'s block is one half of the reference's element. -/
theorem devDot_eq (c d : Dev nD) (i : S4x256x1024.Idx) :
    devDot m c d i = Reference.half O W (i 0) ⟨c.val / 2 * 256 + (i 1).val, row_lt c (i 1)⟩ (i 2) (rowBlock d) := by
  rw [devDot, hO, hW]
  exact rowDot_block d O W _ _ _

/-- Device `c`'s block of the result is its block of the reference's. -/
theorem outAt_eq (c : Dev nD) : outAt m ρ c = RBlock c (Reference.result O W) :=
  funext fun i => (outAt_apply m ρ c i).trans <|
    (congrArg₂ (fun a b : EReal => a + b) (devDot_eq m O W hO hW c c i) (devDot_eq m O W hO hW c (peer c) i)).trans <|
    (both_halves c (Reference.half O W (i 0) _ (i 2))).trans <|
    (Reference.result_apply O W (i 0) _ (i 2)).symm.trans (RBlock_apply c (Reference.result O W) i).symm

end

end Cert.OutProj

end
-- ==== Proof.lean ====
/-
The five claims: the kernel runs and leaves its arguments and the semaphores as they were, over the machine's floats and over
the extended reals; so does the reference; and each device's result is its block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs over the extended reals, its arguments and the semaphores ending as they were. -/
theorem frame_kernelIdeal : Cert.quiescent_KernelIdeal := fun m ρ _ => Cert.OutProj.run_frame (F := Ideal) m ρ

/-- `Kernel`'s text is `KernelIdeal`'s: its body table, label by label, -/
theorem bodies_eq : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | ⟨0, _⟩, (_, _) => rfl
theorem defs_eq : (Cert.Kernel.defs (F := Bits)) = Cert.KernelIdeal.defs (F := Bits) :=
  congrArg (Pipeline.defs (Cert.Kernel.pcfgs (F := Bits))) bodies_eq

/-- so its run is the same run over the machine's floats. -/
theorem frame_kernel : Cert.quiescent_Kernel := fun m ρ _ =>
  (congrArg (fun D => θ_run D (onTc (τ := Cert.Kernel.τ) (Cert.Kernel.main (F := Bits))) ⟨m, fun _ => 0, ρ⟩ _) defs_eq).mpr
    (Cert.OutProj.run_frame (F := Bits) m ρ)

/-- The reference runs, its arguments ending as they were; it has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Each device's result is its block of the reference's result. -/
theorem algebraic : Cert.algebraic_KernelIdeal_ReferenceIdeal := fun m ρ m' ρ' _ hblocks =>
  ⟨_,
    (θ_run Cert.KernelIdeal.defs _ _).mono
      (fun _ h c => ⟨((h.1 c (2 : Fin 3)).trans (Cert.OutProj.finalA_2 m ρ c)).trans
          (Cert.OutProj.outAt_eq m ρ _ _ (fun d => (hblocks d).1) (fun d => (hblocks d).2) c),
        (h.1 c (0 : Fin 3)).trans (Cert.OutProj.finalA_0 m ρ c), (h.1 c (1 : Fin 3)).trans (Cert.OutProj.finalA_1 m ρ c)⟩)
      (Cert.OutProj.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
